-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x1x128 : Shape := ⟨3, ![4, 1, 128]⟩
abbrev S4x1x64 : Shape := ⟨3, ![4, 1, 64]⟩
abbrev S8192 : Shape := ⟨1, ![8192]⟩
abbrev S4x8192x1 : Shape := ⟨3, ![4, 8192, 1]⟩
abbrev S4x8192x128 : Shape := ⟨3, ![4, 8192, 128]⟩
abbrev S4x8192x64 : Shape := ⟨3, ![4, 8192, 64]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S4x1x128 .f32) (main_arg1 : FVec F S4x1x64 .f32) (main_arg2 : IVec S8192 32) (main_arg3 : FVec F S4x8192x1 .f32) (main_arg4 : FVec F S4x8192x128 .f32) (main_arg5 : FVec F S4x8192x64 .f32) : IVec S_ 1 :=
  let main_c : IVec S_ 32 := constantI S_ 32 1#32
  let main_v0 : IVec S8192 32 := broadcastInDim S8192 ![] bcast_S_S8192 main_c
  let main_v1 : IVec S8192 1 := cmpi .sge main_arg2 main_v0
  let main_c_0 : IVec S_ 32 := constantI S_ 32 65536#32
  let main_v2 : IVec S8192 32 := broadcastInDim S8192 ![] bcast_S_S8192 main_c_0
  let main_v3 : IVec S8192 1 := cmpi .slt main_arg2 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S4x1x128 : Shape := ⟨3, ![4, 1, 128]⟩
abbrev S4x1x64 : Shape := ⟨3, ![4, 1, 64]⟩
abbrev S8192 : Shape := ⟨1, ![8192]⟩
abbrev S4x8192x1 : Shape := ⟨3, ![4, 8192, 1]⟩
abbrev S4x8192x128 : Shape := ⟨3, ![4, 8192, 128]⟩
abbrev S4x8192x64 : Shape := ⟨3, ![4, 8192, 64]⟩
abbrev S65536 : Shape := ⟨1, ![65536]⟩
abbrev S256 : Shape := ⟨1, ![256]⟩
abbrev S_ : Shape := ⟨0, ![]⟩
abbrev S16 : Shape := ⟨1, ![16]⟩
abbrev S4x1x2048 : Shape := ⟨3, ![4, 1, 2048]⟩
abbrev S4x128 : Shape := ⟨2, ![4, 128]⟩
abbrev S4x64 : Shape := ⟨2, ![4, 64]⟩
abbrev S4x8192 : Shape := ⟨2, ![4, 8192]⟩
abbrev S4x386 : Shape := ⟨2, ![4, 386]⟩
abbrev S1x1x2048 : Shape := ⟨3, ![1, 1, 2048]⟩
abbrev S4x2048 : Shape := ⟨2, ![4, 2048]⟩
abbrev S4x2048x128 : Shape := ⟨3, ![4, 2048, 128]⟩
abbrev S4x2048x64 : Shape := ⟨3, ![4, 2048, 64]⟩
abbrev S4x1 : Shape := ⟨2, ![4, 1]⟩
abbrev S2048 : Shape := ⟨1, ![2048]⟩
abbrev S1x2048x1 : Shape := ⟨3, ![1, 2048, 1]⟩
abbrev S4 : Shape := ⟨1, ![4]⟩

abbrev nBuf : Table → Nat
  | .hbm => 12
  | .local .tc .vmem => 14
  | .local .scVector .vmem => 3
  | _ => 0

abbrev bufTy : (tb : Table) → Fin (nBuf tb) → BufTy
  | .hbm, ⟨0, _⟩ => ⟨S4x1x128, .f32⟩
  | .hbm, ⟨1, _⟩ => ⟨S4x1x64, .f32⟩
  | .hbm, ⟨2, _⟩ => ⟨S8192, .i32⟩
  | .hbm, ⟨3, _⟩ => ⟨S4x8192x1, .f32⟩
  | .hbm, ⟨4, _⟩ => ⟨S4x8192x128, .f32⟩
  | .hbm, ⟨5, _⟩ => ⟨S4x8192x64, .f32⟩
  | .hbm, ⟨6, _⟩ => ⟨S8192, .f32⟩
  | .hbm, ⟨7, _⟩ => ⟨S4x1x2048, .f32⟩
  | .hbm, ⟨8, _⟩ => ⟨S4x128, .f32⟩
  | .hbm, ⟨9, _⟩ => ⟨S4x64, .f32⟩
  | .hbm, ⟨10, _⟩ => ⟨S4x8192, .f32⟩
  | .hbm, ⟨11, _⟩ => ⟨S4x386, .f32⟩
  | .local .tc .vmem, ⟨0, _⟩ => ⟨S1x1x2048, .f32⟩
  | .local .tc .vmem, ⟨1, _⟩ => ⟨S1x1x2048, .f32⟩
  | .local .tc .vmem, ⟨2, _⟩ => ⟨S4x128, .f32⟩
  | .local .tc .vmem, ⟨3, _⟩ => ⟨S4x64, .f32⟩
  | .local .tc .vmem, ⟨4, _⟩ => ⟨S4x2048, .f32⟩
  | .local .tc .vmem, ⟨5, _⟩ => ⟨S4x2048, .f32⟩
  | .local .tc .vmem, ⟨6, _⟩ => ⟨S4x2048x128, .f32⟩
  | .local .tc .vmem, ⟨7, _⟩ => ⟨S4x2048x128, .f32⟩
  | .local .tc .vmem, ⟨8, _⟩ => ⟨S4x2048x64, .f32⟩
  | .local .tc .vmem, ⟨9, _⟩ => ⟨S4x2048x64, .f32⟩
  | .local .tc .vmem, ⟨10, _⟩ => ⟨S4x386, .f32⟩
  | .local .tc .vmem, ⟨11, _⟩ => ⟨S4x128, .f32⟩
  | .local .tc .vmem, ⟨12, _⟩ => ⟨S4x64, .f32⟩
  | .local .tc .vmem, ⟨13, _⟩ => ⟨S4x1, .f32⟩
  | .local .scVector .vmem, ⟨0, _⟩ => ⟨S8192, .i32⟩
  | .local .scVector .vmem, ⟨1, _⟩ => ⟨S65536, .i32⟩
  | .local .scVector .vmem, ⟨2, _⟩ => ⟨S256, .f32⟩
  | _, _ => ⟨S4x1x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg2_scv : Ref sig .scVector := ⟨.hbm, 2, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32 : BitVec 32 := 8#32
  let v6 : BitVec 32 := Scalar.muli arg7 c8_i32
  let c0_i32_6 : BitVec 32 := 0#32
  let v7 : BitVec 32 := Scalar.addi v6 c0_i32_6
  let c16_i32 : BitVec 32 := 16#32
  let v8 : BitVec 32 := Scalar.muli v7 c16_i32
  let v9 : Index := Scalar.indexCast v8
  ![v9.toNat]

def k0_chk1 (v10 : IVec S16 32) : Prop :=
  (∀ a x, ((![v10] : Fin 1 → IVec S16 32) a x).toNat < S65536.size a)
theorem k0_idx1_inb : ∀ (v10 : IVec S16 32) (k0_hw1 : k0_chk1 v10), ∀ a x, ((![v10] : Fin 1 → IVec S16 32) a x).toNat < S65536.size a := fun v10 k0_hw1 => k0_hw1
def k0_off2 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_8 : BitVec 32 := 8#32
  let v15 : BitVec 32 := Scalar.muli arg7 c8_i32_8
  let c1_i32_9 : BitVec 32 := 1#32
  let v16 : BitVec 32 := Scalar.addi v15 c1_i32_9
  let c16_i32_10 : BitVec 32 := 16#32
  let v17 : BitVec 32 := Scalar.muli v16 c16_i32_10
  let v18 : Index := Scalar.indexCast v17
  ![v18.toNat]

def k0_chk2 (v19 : IVec S16 32) : Prop :=
  (∀ a x, ((![v19] : Fin 1 → IVec S16 32) a x).toNat < S65536.size a)
theorem k0_idx2_inb : ∀ (v19 : IVec S16 32) (k0_hw2 : k0_chk2 v19), ∀ a x, ((![v19] : Fin 1 → IVec S16 32) a x).toNat < S65536.size a := fun v19 k0_hw2 => k0_hw2
def k0_off3 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_15 : BitVec 32 := 8#32
  let v24 : BitVec 32 := Scalar.muli arg7 c8_i32_15
  let c2_i32_16 : BitVec 32 := 2#32
  let v25 : BitVec 32 := Scalar.addi v24 c2_i32_16
  let c16_i32_17 : BitVec 32 := 16#32
  let v26 : BitVec 32 := Scalar.muli v25 c16_i32_17
  let v27 : Index := Scalar.indexCast v26
  ![v27.toNat]

def k0_chk3 (v28 : IVec S16 32) : Prop :=
  (∀ a x, ((![v28] : Fin 1 → IVec S16 32) a x).toNat < S65536.size a)
theorem k0_idx3_inb : ∀ (v28 : IVec S16 32) (k0_hw3 : k0_chk3 v28), ∀ a x, ((![v28] : Fin 1 → IVec S16 32) a x).toNat < S65536.size a := fun v28 k0_hw3 => k0_hw3
def k0_off4 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_22 : BitVec 32 := 8#32
  let v33 : BitVec 32 := Scalar.muli arg7 c8_i32_22
  let c3_i32 : BitVec 32 := 3#32
  let v34 : BitVec 32 := Scalar.addi v33 c3_i32
  let c16_i32_23 : BitVec 32 := 16#32
  let v35 : BitVec 32 := Scalar.muli v34 c16_i32_23
  let v36 : Index := Scalar.indexCast v35
  ![v36.toNat]

def k0_chk4 (v37 : IVec S16 32) : Prop :=
  (∀ a x, ((![v37] : Fin 1 → IVec S16 32) a x).toNat < S65536.size a)
theorem k0_idx4_inb : ∀ (v37 : IVec S16 32) (k0_hw4 : k0_chk4 v37), ∀ a x, ((![v37] : Fin 1 → IVec S16 32) a x).toNat < S65536.size a := fun v37 k0_hw4 => k0_hw4
def k0_off5 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_28 : BitVec 32 := 8#32
  let v42 : BitVec 32 := Scalar.muli arg7 c8_i32_28
  let c4_i32_29 : BitVec 32 := 4#32
  let v43 : BitVec 32 := Scalar.addi v42 c4_i32_29
  let c16_i32_30 : BitVec 32 := 16#32
  let v44 : BitVec 32 := Scalar.muli v43 c16_i32_30
  let v45 : Index := Scalar.indexCast v44
  ![v45.toNat]

def k0_chk5 (v46 : IVec S16 32) : Prop :=
  (∀ a x, ((![v46] : Fin 1 → IVec S16 32) a x).toNat < S65536.size a)
theorem k0_idx5_inb : ∀ (v46 : IVec S16 32) (k0_hw5 : k0_chk5 v46), ∀ a x, ((![v46] : Fin 1 → IVec S16 32) a x).toNat < S65536.size a := fun v46 k0_hw5 => k0_hw5
def k0_off6 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_35 : BitVec 32 := 8#32
  let v51 : BitVec 32 := Scalar.muli arg7 c8_i32_35
  let c5_i32 : BitVec 32 := 5#32
  let v52 : BitVec 32 := Scalar.addi v51 c5_i32
  let c16_i32_36 : BitVec 32 := 16#32
  let v53 : BitVec 32 := Scalar.muli v52 c16_i32_36
  let v54 : Index := Scalar.indexCast v53
  ![v54.toNat]

def k0_chk6 (v55 : IVec S16 32) : Prop :=
  (∀ a x, ((![v55] : Fin 1 → IVec S16 32) a x).toNat < S65536.size a)
theorem k0_idx6_inb : ∀ (v55 : IVec S16 32) (k0_hw6 : k0_chk6 v55), ∀ a x, ((![v55] : Fin 1 → IVec S16 32) a x).toNat < S65536.size a := fun v55 k0_hw6 => k0_hw6
def k0_off7 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_41 : BitVec 32 := 8#32
  let v60 : BitVec 32 := Scalar.muli arg7 c8_i32_41
  let c6_i32 : BitVec 32 := 6#32
  let v61 : BitVec 32 := Scalar.addi v60 c6_i32
  let c16_i32_42 : BitVec 32 := 16#32
  let v62 : BitVec 32 := Scalar.muli v61 c16_i32_42
  let v63 : Index := Scalar.indexCast v62
  ![v63.toNat]

def k0_chk7 (v64 : IVec S16 32) : Prop :=
  (∀ a x, ((![v64] : Fin 1 → IVec S16 32) a x).toNat < S65536.size a)
theorem k0_idx7_inb : ∀ (v64 : IVec S16 32) (k0_hw7 : k0_chk7 v64), ∀ a x, ((![v64] : Fin 1 → IVec S16 32) a x).toNat < S65536.size a := fun v64 k0_hw7 => k0_hw7
def k0_off8 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c8_i32_47 : BitVec 32 := 8#32
  let v69 : BitVec 32 := Scalar.muli arg7 c8_i32_47
  let c7_i32 : BitVec 32 := 7#32
  let v70 : BitVec 32 := Scalar.addi v69 c7_i32
  let c16_i32_48 : BitVec 32 := 16#32
  let v71 : BitVec 32 := Scalar.muli v70 c16_i32_48
  let v72 : Index := Scalar.indexCast v71
  ![v72.toNat]

def k0_chk8 (v73 : IVec S16 32) : Prop :=
  (∀ a x, ((![v73] : Fin 1 → IVec S16 32) a x).toNat < S65536.size a)
theorem k0_idx8_inb : ∀ (v73 : IVec S16 32) (k0_hw8 : k0_chk8 v73), ∀ a x, ((![v73] : Fin 1 → IVec S16 32) a x).toNat < S65536.size a := fun v73 k0_hw8 => k0_hw8
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_off9 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  let c0_i32_3 : BitVec 32 := 0#32
  let c1_i32_4 : BitVec 32 := 1#32
  let arg7 : BitVec 32 := Scf.iv c0_i32_3 c1_i32_4 k0_t2
  let c4_i32_6 : BitVec 32 := 4#32
  let v6 : BitVec 32 := Scalar.muli arg7 c4_i32_6
  let c0_i32_7 : BitVec 32 := 0#32
  let v7 : BitVec 32 := Scalar.addi v6 c0_i32_7
  let v9 : BitVec 32 := Scalar.addi v8 v7
  let c16_i32_8 : BitVec 32 := 16#32
  let v10 : BitVec 32 := Scalar.muli v9 c16_i32_8
  let v11 : Index := Scalar.indexCast v10
  ![v11.toNat]

def k0_chk9 (v12 : IVec S16 32) : Prop :=
  (∀ a x, ((![v12] : Fin 1 → IVec S16 32) a x).toNat < S65536.size a)
theorem k0_idx9_inb : ∀ (v12 : IVec S16 32) (k0_hw9 : k0_chk9 v12), ∀ a x, ((![v12] : Fin 1 → IVec S16 32) a x).toNat < S65536.size a := fun v12 k0_hw9 => k0_hw9
def k0_off10 (k0_t2 : Fin k0_t2_loop.trips) : Fin 1 → Nat :=
  let c0_i32_3 : BitVec 32 := 0#32
  let c1_i32_4 : BitVec 32 := 1#32
  let arg7 : BitVec 32 := Scf.iv c0_i32_3 c1_i32_4 k0_t2
  let c4_i32_6 : BitVec 32 := 4#32
  let v6 : BitVec 32 := Scalar.muli arg7 c4_i32_6
  let c0_i32_7 : BitVec 32 := 0#32
  let v7 : BitVec 32 := Scalar.addi v6 c0_i32_7
  let c16_i32_11 : BitVec 32 := 16#32
  let v21 : BitVec 32 := Scalar.muli v7 c16_i32_11
  let v22 : Index := Scalar.indexCast v21
  ![v22.toNat]
def k0_off11 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_14 : BitVec 32 := 16#32
  let v26 : BitVec 32 := Scalar.muli v1 c16_i32_14
  let c0_i32_3 : BitVec 32 := 0#32
  let c1_i32_4 : BitVec 32 := 1#32
  let arg7 : BitVec 32 := Scf.iv c0_i32_3 c1_i32_4 k0_t2
  let c4_i32_12 : BitVec 32 := 4#32
  let v24 : BitVec 32 := Scalar.muli arg7 c4_i32_12
  let c1_i32_13 : BitVec 32 := 1#32
  let v25 : BitVec 32 := Scalar.addi v24 c1_i32_13
  let v27 : BitVec 32 := Scalar.addi v26 v25
  let c16_i32_15 : BitVec 32 := 16#32
  let v28 : BitVec 32 := Scalar.muli v27 c16_i32_15
  let v29 : Index := Scalar.indexCast v28
  ![v29.toNat]

def k0_chk10 (v30 : IVec S16 32) : Prop :=
  (∀ a x, ((![v30] : Fin 1 → IVec S16 32) a x).toNat < S65536.size a)
theorem k0_idx10_inb : ∀ (v30 : IVec S16 32) (k0_hw10 : k0_chk10 v30), ∀ a x, ((![v30] : Fin 1 → IVec S16 32) a x).toNat < S65536.size a := fun v30 k0_hw10 => k0_hw10
def k0_off12 (k0_t2 : Fin k0_t2_loop.trips) : Fin 1 → Nat :=
  let c0_i32_3 : BitVec 32 := 0#32
  let c1_i32_4 : BitVec 32 := 1#32
  let arg7 : BitVec 32 := Scf.iv c0_i32_3 c1_i32_4 k0_t2
  let c4_i32_12 : BitVec 32 := 4#32
  let v24 : BitVec 32 := Scalar.muli arg7 c4_i32_12
  let c1_i32_13 : BitVec 32 := 1#32
  let v25 : BitVec 32 := Scalar.addi v24 c1_i32_13
  let c16_i32_19 : BitVec 32 := 16#32
  let v39 : BitVec 32 := Scalar.muli v25 c16_i32_19
  let v40 : Index := Scalar.indexCast v39
  ![v40.toNat]
def k0_off13 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_22 : BitVec 32 := 16#32
  let v44 : BitVec 32 := Scalar.muli v1 c16_i32_22
  let c0_i32_3 : BitVec 32 := 0#32
  let c1_i32_4 : BitVec 32 := 1#32
  let arg7 : BitVec 32 := Scf.iv c0_i32_3 c1_i32_4 k0_t2
  let c4_i32_20 : BitVec 32 := 4#32
  let v42 : BitVec 32 := Scalar.muli arg7 c4_i32_20
  let c2_i32_21 : BitVec 32 := 2#32
  let v43 : BitVec 32 := Scalar.addi v42 c2_i32_21
  let v45 : BitVec 32 := Scalar.addi v44 v43
  let c16_i32_23 : BitVec 32 := 16#32
  let v46 : BitVec 32 := Scalar.muli v45 c16_i32_23
  let v47 : Index := Scalar.indexCast v46
  ![v47.toNat]

def k0_chk11 (v48 : IVec S16 32) : Prop :=
  (∀ a x, ((![v48] : Fin 1 → IVec S16 32) a x).toNat < S65536.size a)
theorem k0_idx11_inb : ∀ (v48 : IVec S16 32) (k0_hw11 : k0_chk11 v48), ∀ a x, ((![v48] : Fin 1 → IVec S16 32) a x).toNat < S65536.size a := fun v48 k0_hw11 => k0_hw11
def k0_off14 (k0_t2 : Fin k0_t2_loop.trips) : Fin 1 → Nat :=
  let c0_i32_3 : BitVec 32 := 0#32
  let c1_i32_4 : BitVec 32 := 1#32
  let arg7 : BitVec 32 := Scf.iv c0_i32_3 c1_i32_4 k0_t2
  let c4_i32_20 : BitVec 32 := 4#32
  let v42 : BitVec 32 := Scalar.muli arg7 c4_i32_20
  let c2_i32_21 : BitVec 32 := 2#32
  let v43 : BitVec 32 := Scalar.addi v42 c2_i32_21
  let c16_i32_27 : BitVec 32 := 16#32
  let v57 : BitVec 32 := Scalar.muli v43 c16_i32_27
  let v58 : Index := Scalar.indexCast v57
  ![v58.toNat]
def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_29 : BitVec 32 := 16#32
  let v62 : BitVec 32 := Scalar.muli v1 c16_i32_29
  let c0_i32_3 : BitVec 32 := 0#32
  let c1_i32_4 : BitVec 32 := 1#32
  let arg7 : BitVec 32 := Scf.iv c0_i32_3 c1_i32_4 k0_t2
  let c4_i32_28 : BitVec 32 := 4#32
  let v60 : BitVec 32 := Scalar.muli arg7 c4_i32_28
  let c3_i32 : BitVec 32 := 3#32
  let v61 : BitVec 32 := Scalar.addi v60 c3_i32
  let v63 : BitVec 32 := Scalar.addi v62 v61
  let c16_i32_30 : BitVec 32 := 16#32
  let v64 : BitVec 32 := Scalar.muli v63 c16_i32_30
  let v65 : Index := Scalar.indexCast v64
  ![v65.toNat]

def k0_chk12 (v66 : IVec S16 32) : Prop :=
  (∀ a x, ((![v66] : Fin 1 → IVec S16 32) a x).toNat < S65536.size a)
theorem k0_idx12_inb : ∀ (v66 : IVec S16 32) (k0_hw12 : k0_chk12 v66), ∀ a x, ((![v66] : Fin 1 → IVec S16 32) a x).toNat < S65536.size a := fun v66 k0_hw12 => k0_hw12
def k0_off16 (k0_t2 : Fin k0_t2_loop.trips) : Fin 1 → Nat :=
  let c0_i32_3 : BitVec 32 := 0#32
  let c1_i32_4 : BitVec 32 := 1#32
  let arg7 : BitVec 32 := Scf.iv c0_i32_3 c1_i32_4 k0_t2
  let c4_i32_28 : BitVec 32 := 4#32
  let v60 : BitVec 32 := Scalar.muli arg7 c4_i32_28
  let c3_i32 : BitVec 32 := 3#32
  let v61 : BitVec 32 := Scalar.addi v60 c3_i32
  let c16_i32_34 : BitVec 32 := 16#32
  let v75 : BitVec 32 := Scalar.muli v61 c16_i32_34
  let v76 : Index := Scalar.indexCast v75
  ![v76.toNat]
def k0_off17 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v5 : BitVec 32 := Scalar.muli v1 c256_i32
  ![v5.toNat]
abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v34 : BitVec 1 := Scalar.cmpi .eq arg0 c3_i32
  let v35 : BitVec 32 := Scalar.extui v34
  let c0_i32_25 : BitVec 32 := 0#32
  let v36 : BitVec 1 := Scalar.cmpi .ne v35 c0_i32_25
  v36

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4x386 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x128 : Shape := ⟨3, ![4, 1, 128]⟩
abbrev S4x1x64 : Shape := ⟨3, ![4, 1, 64]⟩
abbrev S8192 : Shape := ⟨1, ![8192]⟩
abbrev S4x8192x1 : Shape := ⟨3, ![4, 8192, 1]⟩
abbrev S4x8192x128 : Shape := ⟨3, ![4, 8192, 128]⟩
abbrev S4x8192x64 : Shape := ⟨3, ![4, 8192, 64]⟩
abbrev S_ : Shape := ⟨0, ![]⟩
abbrev S4x65536x1x128 : Shape := ⟨4, ![4, 65536, 1, 128]⟩
abbrev S4x65536x1x64 : Shape := ⟨4, ![4, 65536, 1, 64]⟩
abbrev S4x65536x2 : Shape := ⟨3, ![4, 65536, 2]⟩
abbrev S4x65536x1 : Shape := ⟨3, ![4, 65536, 1]⟩
abbrev S1 : Shape := ⟨1, ![1]⟩
abbrev S4x1 : Shape := ⟨2, ![4, 1]⟩
abbrev S4x2 : Shape := ⟨2, ![4, 2]⟩
abbrev S8192x1 : Shape := ⟨2, ![8192, 1]⟩
abbrev S8192x2 : Shape := ⟨2, ![8192, 2]⟩
abbrev S4x65536 : Shape := ⟨2, ![4, 65536]⟩
abbrev S65536 : Shape := ⟨1, ![65536]⟩
abbrev S1x65536 : Shape := ⟨2, ![1, 65536]⟩
abbrev S4 : Shape := ⟨1, ![4]⟩
abbrev S4x3 : Shape := ⟨2, ![4, 3]⟩
abbrev S4x128 : Shape := ⟨2, ![4, 128]⟩
abbrev S4x64 : Shape := ⟨2, ![4, 64]⟩
abbrev S4x65536x128 : Shape := ⟨3, ![4, 65536, 128]⟩
abbrev S4x65536x64 : Shape := ⟨3, ![4, 65536, 64]⟩
abbrev S4x386 : Shape := ⟨2, ![4, 386]⟩

abbrev nBuf : Space → Nat
  | .hbm => 200
  | .vmem => 0
  | .smem => 0
  | _ => 0

abbrev hbmTy0_0 (i : Nat) : BufTy := match i % 128 with
  | 0 => ⟨S4x1x128, .f32⟩
  | 1 => ⟨S4x1x64, .f32⟩
  | 2 => ⟨S8192, .i32⟩
  | 3 => ⟨S4x8192x1, .f32⟩
  | 4 => ⟨S4x8192x128, .f32⟩
  | 5 => ⟨S4x8192x64, .f32⟩
  | 6 => ⟨S_, .f32⟩
  | 7 => ⟨S4x65536x1x128, .f32⟩
  | 8 => ⟨S_, .f32⟩
  | 9 => ⟨S4x65536x1x64, .f32⟩
  | 10 => ⟨S_, .i32⟩
  | 11 => ⟨S4x65536x2, .i32⟩
  | 12 => ⟨S4x65536x2, .i32⟩
  | 13 => ⟨S_, .f32⟩
  | 14 => ⟨S4x65536x1, .f32⟩
  | 15 => ⟨S_, .i32⟩
  | 16 => ⟨S1, .i32⟩
  | 17 => ⟨S_, .f32⟩
  | 18 => ⟨S4x1, .f32⟩
  | 19 => ⟨S4x65536x1, .f32⟩
  | 20 => ⟨S_, .i1⟩
  | 21 => ⟨S4x65536x1, .i1⟩
  | 22 => ⟨S_, .i32⟩
  | 23 => ⟨S4x65536x1, .i32⟩
  | 24 => ⟨S_, .i32⟩
  | 25 => ⟨S1, .i32⟩
  | 26 => ⟨S4x65536x1x128, .f32⟩
  | 27 => ⟨S_, .i32⟩
  | 28 => ⟨S1, .i32⟩
  | 29 => ⟨S4x65536x1x64, .f32⟩
  | 30 => ⟨S_, .i32⟩
  | 31 => ⟨S1, .i32⟩
  | 32 => ⟨S_, .i1⟩
  | 33 => ⟨S4x1, .i1⟩
  | 34 => ⟨S4x65536x1, .i1⟩
  | 35 => ⟨S_, .i32⟩
  | 36 => ⟨S1, .i32⟩
  | 37 => ⟨S_, .i32⟩
  | 38 => ⟨S4x2, .i32⟩
  | 39 => ⟨S4x65536x2, .i32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192x1, .i32⟩
  | 51 => ⟨S8192x1, .i32⟩
  | 52 => ⟨S8192x2, .i32⟩
  | 53 => ⟨S4x65536x1x128, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192x1, .i32⟩
  | 65 => ⟨S8192x1, .i32⟩
  | 66 => ⟨S8192x2, .i32⟩
  | 67 => ⟨S4x65536x1x64, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S4x65536x1, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S_, .i1⟩
  | 86 => ⟨S4x8192x1, .i1⟩
  | 87 => ⟨S4x65536x1, .i1⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S_, .i32⟩
  | 97 => ⟨S4x8192x1, .i32⟩
  | 98 => ⟨S4x65536x1, .i32⟩
  | 99 => ⟨S4x65536, .i1⟩
  | 100 => ⟨S_, .i32⟩
  | 101 => ⟨S4x65536x1, .i32⟩
  | 102 => ⟨S4x65536x1, .i1⟩
  | 103 => ⟨S4x65536, .i1⟩
  | 104 => ⟨S4x65536, .i1⟩
  | 105 => ⟨S_, .i32⟩
  | 106 => ⟨S4x65536x2, .i32⟩
  | 107 => ⟨S4x65536x2, .i1⟩
  | 108 => ⟨S_, .i1⟩
  | 109 => ⟨S4x65536, .i1⟩
  | 110 => ⟨S4x65536, .i1⟩
  | 111 => ⟨S4x65536, .i1⟩
  | 112 => ⟨S65536, .i32⟩
  | 113 => ⟨S1x65536, .i32⟩
  | 114 => ⟨S_, .i32⟩
  | 115 => ⟨S_, .i32⟩
  | 116 => ⟨S4x65536, .i32⟩
  | 117 => ⟨S4x65536, .i32⟩
  | 118 => ⟨S4x65536, .i32⟩
  | 119 => ⟨S_, .i32⟩
  | 120 => ⟨S4, .i32⟩
  | 121 => ⟨S_, .i32⟩
  | 122 => ⟨S4, .i32⟩
  | 123 => ⟨S4, .i1⟩
  | 124 => ⟨S_, .i32⟩
  | 125 => ⟨S_, .i32⟩
  | 126 => ⟨S4, .i32⟩
  | 127 => ⟨S4, .i32⟩
  | _ => ⟨S4x1x128, .f32⟩

abbrev hbmTy0_1 (i : Nat) : BufTy := match i % 128 with
  | 0 => ⟨S4, .i32⟩
  | 1 => ⟨S_, .i32⟩
  | 2 => ⟨S4, .i32⟩
  | 3 => ⟨S4, .i1⟩
  | 4 => ⟨S_, .i32⟩
  | 5 => ⟨S4, .i32⟩
  | 6 => ⟨S4, .i32⟩
  | 7 => ⟨S4, .i32⟩
  | 8 => ⟨S_, .i32⟩
  | 9 => ⟨S4, .i32⟩
  | 10 => ⟨S4, .i1⟩
  | 11 => ⟨S_, .i32⟩
  | 12 => ⟨S4, .i32⟩
  | 13 => ⟨S4, .i32⟩
  | 14 => ⟨S4, .i32⟩
  | 15 => ⟨S_, .i32⟩
  | 16 => ⟨S4, .i32⟩
  | 17 => ⟨S4, .i32⟩
  | 18 => ⟨S4x1, .i32⟩
  | 19 => ⟨S4x1, .i32⟩
  | 20 => ⟨S4x1, .i32⟩
  | 21 => ⟨S4x3, .i32⟩
  | 22 => ⟨S4x128, .f32⟩
  | 23 => ⟨S_, .i32⟩
  | 24 => ⟨S4, .i32⟩
  | 25 => ⟨S4, .i1⟩
  | 26 => ⟨S_, .i32⟩
  | 27 => ⟨S4, .i32⟩
  | 28 => ⟨S4, .i32⟩
  | 29 => ⟨S4, .i32⟩
  | 30 => ⟨S_, .i32⟩
  | 31 => ⟨S4, .i32⟩
  | 32 => ⟨S4, .i1⟩
  | 33 => ⟨S_, .i32⟩
  | 34 => ⟨S4, .i32⟩
  | 35 => ⟨S4, .i32⟩
  | 36 => ⟨S4, .i32⟩
  | 37 => ⟨S_, .i32⟩
  | 38 => ⟨S4, .i32⟩
  | 39 => ⟨S4, .i32⟩
  | 40 => ⟨S4x1, .i32⟩
  | 41 => ⟨S4x1, .i32⟩
  | 42 => ⟨S4x1, .i32⟩
  | 43 => ⟨S4x3, .i32⟩
  | 44 => ⟨S4x64, .f32⟩
  | 45 => ⟨S_, .i32⟩
  | 46 => ⟨S4, .i32⟩
  | 47 => ⟨S4, .i1⟩
  | 48 => ⟨S_, .i32⟩
  | 49 => ⟨S4, .i32⟩
  | 50 => ⟨S4, .i32⟩
  | 51 => ⟨S4, .i32⟩
  | 52 => ⟨S_, .i32⟩
  | 53 => ⟨S4, .i32⟩
  | 54 => ⟨S4, .i1⟩
  | 55 => ⟨S_, .i32⟩
  | 56 => ⟨S4, .i32⟩
  | 57 => ⟨S4, .i32⟩
  | 58 => ⟨S4, .i32⟩
  | 59 => ⟨S4x1, .i32⟩
  | 60 => ⟨S4x1, .i32⟩
  | 61 => ⟨S4x2, .i32⟩
  | 62 => ⟨S4x1, .f32⟩
  | 63 => ⟨S4x65536x128, .f32⟩
  | 64 => ⟨S_, .f32⟩
  | 65 => ⟨S4x128, .f32⟩
  | 66 => ⟨S4x65536x64, .f32⟩
  | 67 => ⟨S_, .f32⟩
  | 68 => ⟨S4x64, .f32⟩
  | 69 => ⟨S_, .f32⟩
  | 70 => ⟨S4x1, .f32⟩
  | 71 => ⟨S4x386, .f32⟩
  | _ => ⟨S4x1x128, .f32⟩

abbrev hbmTy (i : Nat) : BufTy := match i / 128 with
  | 0 => hbmTy0_0 i
  | 1 => hbmTy0_1 i
  | _ => ⟨S4x1x128, .f32⟩

abbrev bufTy : (tb : Table) → Fin (tcTables nBuf tb) → BufTy
  | .hbm, ⟨i, _⟩ => hbmTy i
  | _, _ => ⟨S4x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_c_6 : Ref sig .tc := ⟨.hbm, 24, rfl⟩
abbrev main_v10 : Ref sig .tc := ⟨.hbm, 25, rfl⟩
abbrev main_v11 : Ref sig .tc := ⟨.hbm, 26, rfl⟩
abbrev main_c_7 : Ref sig .tc := ⟨.hbm, 27, rfl⟩
abbrev main_v12 : Ref sig .tc := ⟨.hbm, 28, rfl⟩
abbrev main_v13 : Ref sig .tc := ⟨.hbm, 29, rfl⟩
abbrev main_c_8 : Ref sig .tc := ⟨.hbm, 30, rfl⟩
abbrev main_v14 : Ref sig .tc := ⟨.hbm, 31, rfl⟩
abbrev main_c_9 : Ref sig .tc := ⟨.hbm, 32, rfl⟩
abbrev main_v15 : Ref sig .tc := ⟨.hbm, 33, rfl⟩
abbrev main_v16 : Ref sig .tc := ⟨.hbm, 34, rfl⟩
abbrev main_c_10 : Ref sig .tc := ⟨.hbm, 35, rfl⟩
abbrev main_v17 : Ref sig .tc := ⟨.hbm, 36, rfl⟩
abbrev main_c_11 : Ref sig .tc := ⟨.hbm, 37, rfl⟩
abbrev main_v18 : Ref sig .tc := ⟨.hbm, 38, rfl⟩
abbrev main_v19 : Ref sig .tc := ⟨.hbm, 39, rfl⟩
abbrev main_c_12 : Ref sig .tc := ⟨.hbm, 40, rfl⟩
abbrev main_v20 : Ref sig .tc := ⟨.hbm, 41, rfl⟩
abbrev main_v21 : Ref sig .tc := ⟨.hbm, 42, rfl⟩
abbrev main_c_13 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_14 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_15 : Ref sig .tc := ⟨.hbm, 54, rfl⟩
abbrev main_v31 : Ref sig .tc := ⟨.hbm, 55, rfl⟩
abbrev main_v32 : Ref sig .tc := ⟨.hbm, 56, rfl⟩
abbrev main_c_16 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_17 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_18 : Ref sig .tc := ⟨.hbm, 68, rfl⟩
abbrev main_v42 : Ref sig .tc := ⟨.hbm, 69, rfl⟩
abbrev main_v43 : Ref sig .tc := ⟨.hbm, 70, rfl⟩
abbrev main_c_19 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_20 : Ref sig .tc := ⟨.hbm, 77, rfl⟩
abbrev main_v49 : Ref sig .tc := ⟨.hbm, 78, rfl⟩
abbrev main_v50 : Ref sig .tc := ⟨.hbm, 79, rfl⟩
abbrev main_c_21 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_22 : Ref sig .tc := ⟨.hbm, 85, rfl⟩
abbrev main_v55 : Ref sig .tc := ⟨.hbm, 86, rfl⟩
abbrev main_v56 : Ref sig .tc := ⟨.hbm, 87, rfl⟩
abbrev main_c_23 : Ref sig .tc := ⟨.hbm, 88, rfl⟩
abbrev main_v57 : Ref sig .tc := ⟨.hbm, 89, rfl⟩
abbrev main_v58 : Ref sig .tc := ⟨.hbm, 90, rfl⟩
abbrev main_c_24 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_25 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_26 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_27 : Ref sig .tc := ⟨.hbm, 105, rfl⟩
abbrev main_v70 : Ref sig .tc := ⟨.hbm, 106, rfl⟩
abbrev main_v71 : Ref sig .tc := ⟨.hbm, 107, rfl⟩
abbrev main_c_28 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_29 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_v77 : Ref sig .tc := ⟨.hbm, 118, rfl⟩
abbrev main_c_30 : Ref sig .tc := ⟨.hbm, 119, rfl⟩
abbrev main_v78 : Ref sig .tc := ⟨.hbm, 120, rfl⟩
abbrev main_c_31 : Ref sig .tc := ⟨.hbm, 121, rfl⟩
abbrev main_v79 : Ref sig .tc := ⟨.hbm, 122, rfl⟩
abbrev main_v80 : Ref sig .tc := ⟨.hbm, 123, rfl⟩
abbrev main_c_32 : Ref sig .tc := ⟨.hbm, 124, rfl⟩
abbrev main_call1_v0 : Ref sig .tc := ⟨.hbm, 125, rfl⟩
abbrev main_call1_v1 : Ref sig .tc := ⟨.hbm, 126, rfl⟩
abbrev main_v81 : Ref sig .tc := ⟨.hbm, 127, rfl⟩
abbrev main_v82 : Ref sig .tc := ⟨.hbm, 128, rfl⟩
abbrev main_c_33 : Ref sig .tc := ⟨.hbm, 129, rfl⟩
abbrev main_v83 : Ref sig .tc := ⟨.hbm, 130, rfl⟩
abbrev main_v84 : Ref sig .tc := ⟨.hbm, 131, rfl⟩
abbrev main_c_34 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_35 : Ref sig .tc := ⟨.hbm, 136, rfl⟩
abbrev main_v88 : Ref sig .tc := ⟨.hbm, 137, rfl⟩
abbrev main_v89 : Ref sig .tc := ⟨.hbm, 138, rfl⟩
abbrev main_c_36 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_c_37 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_38 : Ref sig .tc := ⟨.hbm, 151, rfl⟩
abbrev main_v100 : Ref sig .tc := ⟨.hbm, 152, rfl⟩
abbrev main_v101 : Ref sig .tc := ⟨.hbm, 153, rfl⟩
abbrev main_c_39 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_40 : Ref sig .tc := ⟨.hbm, 158, rfl⟩
abbrev main_v105 : Ref sig .tc := ⟨.hbm, 159, rfl⟩
abbrev main_v106 : Ref sig .tc := ⟨.hbm, 160, rfl⟩
abbrev main_c_41 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_42 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_43 : Ref sig .tc := ⟨.hbm, 173, rfl⟩
abbrev main_v117 : Ref sig .tc := ⟨.hbm, 174, rfl⟩
abbrev main_v118 : Ref sig .tc := ⟨.hbm, 175, rfl⟩
abbrev main_c_44 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_c_45 : Ref sig .tc := ⟨.hbm, 180, rfl⟩
abbrev main_v122 : Ref sig .tc := ⟨.hbm, 181, rfl⟩
abbrev main_v123 : Ref sig .tc := ⟨.hbm, 182, rfl⟩
abbrev main_c_46 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_47 : Ref sig .tc := ⟨.hbm, 192, rfl⟩
abbrev main_v132 : Ref sig .tc := ⟨.hbm, 193, rfl⟩
abbrev main_v133 : Ref sig .tc := ⟨.hbm, 194, rfl⟩
abbrev main_cst_48 : Ref sig .tc := ⟨.hbm, 195, rfl⟩
abbrev main_v134 : Ref sig .tc := ⟨.hbm, 196, rfl⟩
abbrev main_cst_49 : Ref sig .tc := ⟨.hbm, 197, rfl⟩
abbrev main_v135 : Ref sig .tc := ⟨.hbm, 198, rfl⟩
abbrev main_v136 : Ref sig .tc := ⟨.hbm, 199, rfl⟩

abbrev nD : Nat := 1
abbrev τ : Topo := Topo.v7x

variable {F : FTy → Type} [FloatOps F]
-- ==== Proof.Table.lean ====
/-
  The table of last writers, in pure terms: what sixteen more writes do to a table that knows the last writer of every
  node hit so far (`plsc.scan_count` keeps the last lane of every node, `plsc.store_scatter` writes those lanes), and
  the mask that reading the finished table back gives.
-/
module

public import proofs.«01_k».proof.Proof.Gen.KernelIdeal.Skeleton

@[expose] public section

noncomputable section

namespace Cert.Proof.Table

open Cert.KernelIdeal Cert.KernelIdeal.Gen

open Idealize.ShloMosaic

variable {F : FTy → Type}

/-! ## A masked indexed store, element by element -/

section Store

variable {s : Shape} {e : EltTy} {d : Fin 1 → Nat}

/-- One lane of a masked indexed store that adds nothing. -/
def stepLane (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = (idxAt idxs h (Shape.ofLane k) a).val) then v (Shape.ofLane k) else g j
  else g

variable [FloatOps F]

theorem storeIdx_eq (f : Vec F s e) (idxs : Fin s.rank → IVec ⟨1, d⟩ 32) (v : Vec F ⟨1, d⟩ e) (mask : IVec ⟨1, d⟩ 1)
    (h : ∀ a x, (idxs a x).toNat < s.size a) :
    storeIdx f idxs v mask false h = (List.finRange (d 0)).foldl (stepLane idxs v mask h) f := by
  unfold storeIdx stepLane
  simp only [Bool.false_eq_true, if_false]

/-- Lane `k` names element `j`. -/
def Names (idxs : Fin s.rank → IVec ⟨1, d⟩ 32) (h : ∀ a x, (idxs a x).toNat < s.size a) (j : s.Idx) (k : Fin (d 0)) : Prop :=
  ∀ a, (j a).val = (idxAt idxs h (Shape.ofLane k) a).val

theorem foldl_miss (idxs : Fin s.rank → IVec ⟨1, d⟩ 32) (v : Vec F ⟨1, d⟩ e) (mask : IVec ⟨1, d⟩ 1)
    (h : ∀ a x, (idxs a x).toNat < s.size a) (j : s.Idx) :
    ∀ (l : List (Fin (d 0))) (f : Vec F s e), (∀ k ∈ l, mask (Shape.ofLane k) = 1 → ¬ Names idxs h j k) →
      l.foldl (stepLane idxs v mask h) f j = f j := by
  intro l
  induction l with
  | nil => intro f _; rfl
  | cons k l ih =>
    intro f hm
    rw [List.foldl_cons, ih _ fun k' hk' => hm k' (List.mem_cons_of_mem _ hk')]
    unfold stepLane
    by_cases hk : mask (Shape.ofLane k) = 1
    · rw [if_pos hk]; exact if_neg (hm k List.mem_cons_self hk)
    · rw [if_neg hk]

/-- An element no written lane names keeps its value. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx) (hm : ∀ k, mask (Shape.ofLane k) = 1 → ¬ Names idxs h j k) :
    storeIdx f idxs v mask false h j = f j := by
  rw [storeIdx_eq]; exact foldl_miss idxs v mask h j _ f fun k _ => hm k

/-- An element a written lane names, and no later written lane, holds that lane's value. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (k : Fin (d 0)) (hk : mask (Shape.ofLane k) = 1)
    (hj : Names idxs h j k) (hm : ∀ k', k < k' → mask (Shape.ofLane k') = 1 → ¬ Names idxs h j k') :
    storeIdx f idxs v mask false h j = v (Shape.ofLane k) := by
  rw [storeIdx_eq]
  have key : ∀ (l : List (Fin (d 0))) (f : Vec F s e), l.Pairwise (· < ·) → k ∈ l →
      l.foldl (stepLane idxs v mask h) f j = v (Shape.ofLane k) := by
    intro l
    induction l with
    | nil => intro f _ hkl; exact absurd hkl List.not_mem_nil
    | cons k' l ih =>
      intro f hp hkl
      rw [List.foldl_cons]
      have hp' := List.pairwise_cons.mp hp
      rcases List.mem_cons.mp hkl with rfl | hkl
      · rw [foldl_miss idxs v mask h j l _ fun k' hk' => hm k' (hp'.1 k' hk')]
        unfold stepLane; rw [if_pos hk]; exact if_pos hj
      · exact ih _ hp'.2 hkl
  exact key _ f (List.pairwise_lt_finRange _) (List.mem_finRange k)

end Store

/-! ## The table of last writers -/

/-- Among the first `n` writes, `w` is the last that names its node. -/
def LastIn (I : IVec S8192 32) (n : ℕ) (w : S8192.Idx) : Prop :=
  (w 0).val < n ∧ ∀ w' : S8192.Idx, (w' 0).val < n → I w' = I w → (w' 0).val ≤ (w 0).val

/-- The table after the first `n` writes: every node they name holds the number of its last writer. -/
def Tab (I : IVec S8192 32) (n : ℕ) (t : IVec S65536 32) : Prop :=
  ∀ w : S8192.Idx, LastIn I n w → ∀ j : S65536.Idx, (j 0).val = (I w).toNat → t j = BitVec.ofNat 32 (w 0).val

theorem Tab_zero (I : IVec S8192 32) (t : IVec S65536 32) : Tab I 0 t := fun _ hw => absurd hw.1 (Nat.not_lt_zero _)

/-- Lane `l` of a vector of sixteen. -/
abbrev lane (l : Fin 16) : S16.Idx := Shape.ofLane (d := ![16]) l

theorem lane_eta (x : S16.Idx) : lane (x 0) = x := by
  funext a; fin_cases a; rfl

theorem pos_lane (x : S16.Idx) : (S16.rowMajor x).val = (x 0).val := by
  have h : x = lane (x 0) := (lane_eta x).symm
  generalize x 0 = l at h
  subst h
  revert l; decide +kernel

/-- The mask `scan_count` gives over all lanes: the last lane of every value. -/
theorem keep_eq_one (m : IVec S16 1) (hm : ∀ x, m x = 1) (v : IVec S16 32) (x : S16.Idx) :
    (scanCount m v).1 x = 1 ↔ ∀ y : S16.Idx, (x 0).val < (y 0).val → v y ≠ v x := by
  unfold scanCount
  simp only [pos_lane, hm, true_and]
  constructor
  · intro h y hy hv
    split at h
    · rename_i h'; exact h' y hy hv
    · exact absurd h (by decide)
  · intro h; rw [if_pos h]

/-- Write `16 k + l`. -/
def wr (k : ℕ) (hk : k < 512) (l : Fin 16) : S8192.Idx := fun a => ⟨16 * k + l.val, by fin_cases a; show 16 * k + l.val < 8192; omega⟩

variable [FloatOps F]

/-- Sixteen more writes: the lanes `x` read off the indices, the kept lanes stored at them. -/
theorem Tab_step (I : IVec S8192 32) (k : ℕ) (hk : k < 512) (t : Vec F S65536 .i32) (hT : Tab I (16 * k) t)
    (x : IVec S16 32) (hx : ∀ l : Fin 16, x (lane l) = I (wr k hk l)) (v : IVec S16 32) (hv : ∀ l : Fin 16, v (lane l) = BitVec.ofNat 32 (16 * k + l.val))
    (m : IVec S16 1) (hm : ∀ y, m y = 1) (h : ∀ a y, ((![x] : Fin 1 → IVec S16 32) a y).toNat < S65536.size a) :
    Tab I (16 * (k + 1)) (storeIdx (F := F) (s := S65536) (e := .i32) t ![x] v (scanCount m x).1 false h) := by
  have names : ∀ (j : S65536.Idx) (l : Fin 16), Names (s := S65536) (d := ![16]) ![x] h j l ↔ (j 0).val = (x (lane l)).toNat := by
    intro j l; constructor
    · intro hn; exact hn 0
    · intro hn a; fin_cases a; exact hn
  have keep : ∀ l : Fin 16, (scanCount m x).1 (lane l) = 1 ↔ ∀ l' : Fin 16, l < l' → x (lane l') ≠ x (lane l) := by
    intro l; rw [keep_eq_one m hm]
    constructor
    · intro h' l' hl; exact h' (lane l') hl
    · intro h' y hy; rw [← lane_eta y]; exact h' (y 0) hy
  intro w hw j hj
  by_cases hlt : (w 0).val < 16 * k
  · -- an earlier write, not written again
    rw [storeIdx_miss (F := F) (s := S65536) (d := ![16])]
    · exact hT w ⟨hlt, fun w' h' he => hw.2 w' (by omega) he⟩ j hj
    · intro l _ hn
      have e : I (wr k hk l) = I w := by
        rw [← hx l]; apply BitVec.eq_of_toNat_eq; rw [← (names j l).mp hn, hj]
      have := hw.2 (wr k hk l) (show 16 * k + l.val < 16 * (k + 1) by have := l.isLt; change l.val < 16 at this; omega) e
      have : 16 * k + l.val ≤ (w 0).val := this
      omega
  · -- one of the sixteen
    have hw1 : (w 0).val < 16 * (k + 1) := hw.1
    obtain ⟨l, hl⟩ : ∃ l : Fin 16, w = wr k hk l := by
      refine ⟨⟨(w 0).val - 16 * k, by omega⟩, ?_⟩
      funext a; fin_cases a; apply Fin.ext; show (w 0).val = 16 * k + ((w 0).val - 16 * k); omega
    have hl0 : (w 0).val = 16 * k + l.val := by rw [hl]; rfl
    have hxl : x (lane l) = I w := by rw [hx l, hl]
    have hlast : ∀ l' : Fin 16, l < l' → x (lane l') ≠ x (lane l) := by
      intro l' hll' he
      have := hw.2 (wr k hk l') (show 16 * k + l'.val < 16 * (k + 1) by have := l'.isLt; change l'.val < 16 at this; omega) (by rw [← hx l', he, hxl])
      have h2 : 16 * k + l'.val ≤ (w 0).val := this
      have h3 : l.val < l'.val := hll'
      omega
    rw [storeIdx_hit (F := F) (s := S65536) (d := ![16]) (k := l)]
    · show v (lane l) = _; rw [hv l, hl0]
    · exact (keep l).mpr hlast
    · rw [names, hxl]; exact hj
    · intro l' hll' _ hn
      refine hlast l' hll' (BitVec.eq_of_toNat_eq ?_)
      rw [← (names j l').mp hn, hj, hxl]

/-! ## The mask -/

/-- `w` is the last of all writes to its node. -/
def Last (I : IVec S8192 32) (w : S8192.Idx) : Prop := ∀ w' : S8192.Idx, (w 0).val < (w' 0).val → I w' ≠ I w

instance (I : IVec S8192 32) (w : S8192.Idx) : Decidable (Last I w) := Classical.propDecidable _

/-- The mask the SparseCore call leaves: one at the last write of every node, zero elsewhere. -/
def maskArr (I : IVec S8192 32) : FVec F S8192 .f32 := fun w => if Last I w then Scalar.ofBits .f32 0x3F800000#32 else Scalar.ofBits .f32 0x00000000#32

omit [FloatOps F] in
/-- In the finished table a node's entry is its writer's number exactly when that writer is the node's last. -/
theorem Tab_read (I : IVec S8192 32) (t : IVec S65536 32) (hT : Tab I 8192 t) (w : S8192.Idx) (j : S65536.Idx) (hj : (j 0).val = (I w).toNat) :
    t j = BitVec.ofNat 32 (w 0).val ↔ Last I w := by
  have hb : ∀ w : S8192.Idx, (w 0).val < 8192 := fun w => (w 0).isLt
  -- the last writer of that node
  obtain ⟨u, hu, hmax⟩ := Finset.exists_max_image (Finset.univ.filter fun u : S8192.Idx => I u = I w) (fun u => (u 0).val)
    ⟨w, Finset.mem_filter.mpr ⟨Finset.mem_univ _, rfl⟩⟩
  have hu' : I u = I w := (Finset.mem_filter.mp hu).2
  have hread : t j = BitVec.ofNat 32 (u 0).val :=
    hT u ⟨hb u, fun w' _ he => hmax w' (Finset.mem_filter.mpr ⟨Finset.mem_univ _, he.trans hu'⟩)⟩ j (by rw [hj, hu'])
  constructor
  · intro h w' hlt he
    have e : (BitVec.ofNat 32 (u 0).val).toNat = (BitVec.ofNat 32 (w 0).val).toNat := by rw [← hread, h]
    have h1 := hb u; have h2 := hb w
    rw [BitVec.toNat_ofNat, BitVec.toNat_ofNat, Nat.mod_eq_of_lt (by omega), Nat.mod_eq_of_lt (by omega)] at e
    have := hmax w' (Finset.mem_filter.mpr ⟨Finset.mem_univ _, he⟩)
    simp only at this
    omega
  · intro h
    have h1 := hmax w (Finset.mem_filter.mpr ⟨Finset.mem_univ _, rfl⟩)
    simp only at h1
    have h2 : ¬ (w 0).val < (u 0).val := fun hlt => h u hlt hu'
    rw [hread, show (u 0).val = (w 0).val by omega]

end Cert.Proof.Table

end
-- ==== Proof.Lanes.lean ====
/-
  The lanes of the SparseCore body: what sixteen lanes loaded off a row are, what sixteen lanes stored into a row
  leave, and the payloads of both loops lane by lane.
-/
module

public import proofs.«01_k».proof.Proof.Table

@[expose] public section

noncomputable section

namespace Cert.Proof.Lanes

open Cert.KernelIdeal Cert.KernelIdeal.Gen
open Cert.Proof.Table

open Idealize.ShloMosaic

variable {F : FTy → Type}

/-! ## Sixteen lanes of a row -/

/-- Word `n` of the write indices' row. -/
abbrev at8192 (n : ℕ) (hn : n < 8192) : S8192.Idx := fun a => ⟨n, by fin_cases a; exact hn⟩
/-- Word `n` of a tile's mask row. -/
abbrev at256 (n : ℕ) (hn : n < 256) : S256.Idx := fun a => ⟨n, by fin_cases a; exact hn⟩

theorem emb8192 (off : Fin 1 → ℕ) (h : ∀ a, off a + S16.size a ≤ S8192.size a) (n : ℕ) (hoff : off = ![n]) (l : Fin 16) (hn : n + l.val < 8192) :
    (Rect.unit (s := S8192) off S16.size h).emb (lane l) = at8192 (n + l.val) hn := by
  subst hoff
  funext a; fin_cases a; apply Fin.ext
  show n + 1 * l.val = n + l.val
  omega

theorem emb256 (off : Fin 1 → ℕ) (h : ∀ a, off a + S16.size a ≤ S256.size a) (n : ℕ) (hoff : off = ![n]) (l : Fin 16) (hn : n + l.val < 256) :
    (Rect.unit (s := S256) off S16.size h).emb (lane l) = at256 (n + l.val) hn := by
  subst hoff
  funext a; fin_cases a; apply Fin.ext
  show n + 1 * l.val = n + l.val
  omega

/-- Sixteen words stored from word `n` on continue a row known up to there. -/
theorem store_step (f : FVec F S256 .f32) (G : S256.Idx → F .f32) (n : ℕ) (hf : ∀ p : S256.Idx, (p 0).val < n → f p = G p)
    (off : Fin 1 → ℕ) (h : ∀ a, off a + S16.size a ≤ S256.size a) (hoff : off = ![n])
    (v : FVec F S16 .f32) (hv : ∀ (l : Fin 16) (hn : n + l.val < 256), v (lane l) = G (at256 (n + l.val) hn)) :
    ∀ p : S256.Idx, (p 0).val < n + 16 →
      ((Memref.whole cc0_scratch2 : Memref sig .scVector .vmem S256 .f32).access (Rect.unit (s := S256) off S16.size h)).write (Elt F) f v Finset.univ p = G p := by
  intro p hp
  by_cases hlt : (p 0).val < n
  · refine (View.write_of_not_mem _ _ _ ?_).trans (hf p hlt)
    intro hm
    obtain ⟨x, -, hx⟩ := Finset.mem_map.mp hm
    have h0 : (p 0).val = n + 1 * (x 0).val := by rw [← hx]; subst hoff; rfl
    omega
  · have hb : (p 0).val - n < 16 := by omega
    have hp' : (p 0).val < 256 := (p 0).isLt
    have e := emb256 off h n hoff ⟨(p 0).val - n, hb⟩ (by show n + ((p 0).val - n) < 256; omega)
    have e' : (Rect.unit (s := S256) off S16.size h).emb (lane ⟨(p 0).val - n, hb⟩) = p := by
      rw [e]; funext a; fin_cases a; apply Fin.ext; show n + ((p 0).val - n) = (p 0).val; omega
    have hw := View.write_emb_of_mem (v := (Memref.whole cc0_scratch2 : Memref sig .scVector .vmem S256 .f32).access (Rect.unit (s := S256) off S16.size h))
      (Val := Elt F) f v (M := Finset.univ) (x := lane ⟨(p 0).val - n, hb⟩) (Finset.mem_univ _)
    have e'' : ((Memref.whole cc0_scratch2 : Memref sig .scVector .vmem S256 .f32).access (Rect.unit (s := S256) off S16.size h)).emb (lane ⟨(p 0).val - n, hb⟩) = p := e'
    rw [e''] at hw
    refine hw.trans ?_
    rw [cast_eq]
    refine (hv _ (by show n + ((p 0).val - n) < 256; omega)).trans (congrArg G ?_)
    rw [← e, e']

/-! ## The payloads, lane by lane -/

abbrev io : IVec S16 32 := iota .scVector S16 32 [0] iota_S16_d0_w32_scVector

theorem pay8_lane : ∀ (k : Fin k0_t1_loop.trips) (l : Fin 16), k0_pay8 io 0#32 1#32 k (lane l) = BitVec.ofNat 32 (16 * (8 * k.val) + l.val) := by decide +kernel
theorem pay10_lane : ∀ (k : Fin k0_t1_loop.trips) (l : Fin 16), k0_pay10 io 0#32 1#32 k (lane l) = BitVec.ofNat 32 (16 * (8 * k.val + 1) + l.val) := by decide +kernel
theorem pay12_lane : ∀ (k : Fin k0_t1_loop.trips) (l : Fin 16), k0_pay12 io 0#32 1#32 k (lane l) = BitVec.ofNat 32 (16 * (8 * k.val + 2) + l.val) := by decide +kernel
theorem pay14_lane : ∀ (k : Fin k0_t1_loop.trips) (l : Fin 16),
    k0_pay14 io (Scalar.addi (Scalar.muli (Scf.iv 0#32 1#32 k) 8#32) 3#32) (lane l) = BitVec.ofNat 32 (16 * (8 * k.val + 3) + l.val) := by decide +kernel
theorem pay16_lane : ∀ (k : Fin k0_t1_loop.trips) (l : Fin 16), k0_pay16 io (Scf.iv 0#32 1#32 k) (lane l) = BitVec.ofNat 32 (16 * (8 * k.val + 4) + l.val) := by decide +kernel
theorem pay18_lane : ∀ (k : Fin k0_t1_loop.trips) (l : Fin 16), k0_pay18 io (Scf.iv 0#32 1#32 k) (lane l) = BitVec.ofNat 32 (16 * (8 * k.val + 5) + l.val) := by decide +kernel
theorem pay2_lane : ∀ (k : Fin k0_t1_loop.trips) (l : Fin 16),
    k0_pay2 (Scalar.addi (Scalar.muli (Scf.iv 0#32 1#32 k) 8#32) 6#32) (lane l) = BitVec.ofNat 32 (16 * (8 * k.val + 6) + l.val) := by decide +kernel
theorem pay4_lane : ∀ (k : Fin k0_t1_loop.trips) (l : Fin 16), k0_pay4 (Scf.iv 0#32 1#32 k) (lane l) = BitVec.ofNat 32 (16 * (8 * k.val + 7) + l.val) := by decide +kernel

/-- The first word of tile `i`'s row of the mask. -/
abbrev rowOff (i : grid0.Coords) : ℕ := 512 * (i 1).val + 256 * (i 0).val
/-- The tile's number, as the program computes it. -/
abbrev widBV (i : grid0.Coords) : BitVec 32 := Scalar.addi (Scalar.muli (BitVec.ofNat 32 (i 1).val) 2#32) (BitVec.ofNat 32 (i 0).val)

/-- The word one lane of group `u` of trip `k` stands for, as the program computes it. -/
abbrev wordBV (i : grid0.Coords) (k : Fin k0_t2_loop.trips) (u : BitVec 32) : IVec S16 32 :=
  addi (broadcast S16 (Scalar.muli (Scalar.addi (Scalar.muli (widBV i) 16#32) (Scalar.addi (Scalar.muli (Scf.iv 0#32 1#32 k) 4#32) u)) 16#32)) io

theorem word0_lane : ∀ (i : grid0.Coords) (k : Fin k0_t2_loop.trips) (l : Fin 16), wordBV i k 0#32 (lane l) = BitVec.ofNat 32 (rowOff i + 64 * k.val + l.val) := by decide +kernel
theorem word1_lane : ∀ (i : grid0.Coords) (k : Fin k0_t2_loop.trips) (l : Fin 16), wordBV i k 1#32 (lane l) = BitVec.ofNat 32 (rowOff i + (64 * k.val + 16) + l.val) := by decide +kernel
theorem word2_lane : ∀ (i : grid0.Coords) (k : Fin k0_t2_loop.trips) (l : Fin 16), wordBV i k 2#32 (lane l) = BitVec.ofNat 32 (rowOff i + (64 * k.val + 32) + l.val) := by decide +kernel
theorem word3_lane : ∀ (i : grid0.Coords) (k : Fin k0_t2_loop.trips) (l : Fin 16), wordBV i k 3#32 (lane l) = BitVec.ofNat 32 (rowOff i + (64 * k.val + 48) + l.val) := by decide +kernel

variable [FloatOps F]

/-- One or zero, as the kernel's mask spells them. -/
def bitOf (p : Prop) [Decidable p] : F .f32 := if p then Scalar.ofBits .f32 0x3F800000#32 else Scalar.ofBits .f32 0x00000000#32

theorem select_lane (x y : IVec S16 32) (j : S16.Idx) :
    select (cmpi .eq x y) (broadcast S16 (Scalar.ofBits .f32 0x3F800000#32 : F .f32)) (broadcast S16 (Scalar.ofBits .f32 0x00000000#32 : F .f32)) j
      = bitOf (x j = y j) := by
  unfold bitOf
  show Scalar.select (BitVec.ofBool (x j == y j)) _ _ = _
  by_cases h : x j = y j
  · rw [if_pos h, show (x j == y j) = true by simpa using h]; rfl
  · rw [if_neg h, show (x j == y j) = false by simpa using h]; rfl

theorem pay20_lane (i : grid0.Coords) (k : Fin k0_t2_loop.trips) (x : IVec S16 32) (l : Fin 16) :
    k0_pay20 (F := F) (widBV i) io 0#32 1#32 k x (lane l) = bitOf (x (lane l) = BitVec.ofNat 32 (rowOff i + 64 * k.val + l.val)) := by
  rw [← word0_lane]; exact select_lane x (wordBV i k 0#32) (lane l)
theorem pay21_lane (i : grid0.Coords) (k : Fin k0_t2_loop.trips) (x : IVec S16 32) (l : Fin 16) :
    k0_pay21 (F := F) (widBV i) io 0#32 1#32 k x (lane l) = bitOf (x (lane l) = BitVec.ofNat 32 (rowOff i + (64 * k.val + 16) + l.val)) := by
  rw [← word1_lane]; exact select_lane x (wordBV i k 1#32) (lane l)
theorem pay5_lane (i : grid0.Coords) (k : Fin k0_t2_loop.trips) (x : IVec S16 32) (l : Fin 16) :
    k0_pay5 (F := F) i (Scalar.muli (Scf.iv 0#32 1#32 k) 4#32) 2#32 x (lane l) = bitOf (x (lane l) = BitVec.ofNat 32 (rowOff i + (64 * k.val + 32) + l.val)) := by
  rw [← word2_lane]; exact select_lane x (wordBV i k 2#32) (lane l)
theorem pay6_lane (i : grid0.Coords) (k : Fin k0_t2_loop.trips) (x : IVec S16 32) (l : Fin 16) :
    k0_pay6 (F := F) i (Scf.iv 0#32 1#32 k) x (lane l) = bitOf (x (lane l) = BitVec.ofNat 32 (rowOff i + (64 * k.val + 48) + l.val)) := by
  rw [← word3_lane]; exact select_lane x (wordBV i k 3#32) (lane l)

theorem rowOff_lt : ∀ (i : grid0.Coords) (p : Fin 256), rowOff i + p.val < 8192 := by decide +kernel

/-- Tile `i`'s row of the mask, word by word. -/
abbrev rowOf (I : IVec S8192 32) (i : grid0.Coords) : FVec F S256 .f32 := fun p => maskArr I (at8192 (rowOff i + (p 0).val) (rowOff_lt i (p 0)))

/-- One lane of the second loop: the word it compares is the finished table's entry at that write's node. -/
theorem lane_mask (I : IVec S8192 32) (t : IVec S65536 32) (hT : Tab I 8192 t) (i : grid0.Coords) (n : ℕ) (l : Fin 16) (hn : n + l.val < 256)
    (x : IVec S16 32) (hx : x (lane l) = I (at8192 (rowOff i + n + l.val) (by have := rowOff_lt i ⟨n + l.val, hn⟩; simp only at this; omega)))
    (h : ∀ a y, ((![x] : Fin 1 → IVec S16 32) a y).toNat < S65536.size a) :
    bitOf (F := F) (loadIdx (F := F) (s := S65536) (e := .i32) t ![x] h (lane l) = BitVec.ofNat 32 (rowOff i + n + l.val)) = rowOf I i (at256 (n + l.val) hn) := by
  have hb := rowOff_lt i ⟨n + l.val, hn⟩
  have hT' := Tab_read I t hT (at8192 (rowOff i + n + l.val) (by simp only at hb; omega)) (idxAt (s := S65536) ![x] h (lane l)) (by rw [← hx]; rfl)
  have e : (at8192 (rowOff i + (at256 (n + l.val) hn 0).val) (rowOff_lt i _)) = at8192 (rowOff i + n + l.val) (by simp only at hb; omega) := by
    funext a; fin_cases a; apply Fin.ext; show rowOff i + (n + l.val) = rowOff i + n + l.val; omega
  show bitOf _ = maskArr I _
  rw [e]
  unfold bitOf maskArr
  exact if_congr hT' rfl rfl

end Cert.Proof.Lanes
-- ==== Proof.Tile.lean ====
/-
  One tile of the SparseCore call `_sc_is_last_body`: it fetches the write indices, scatters every write's number into
  its table of nodes in the order of the writes (two loops of `plsc.scan_count` and the masked `plsc.store_scatter`,
  then of `plsc.load_gather`), and writes out its 256 words of the mask. Beside the resources the loops' invariants
  carry what the table knows (`Tab`) and which words of the mask are done; the tile leaves its row at `maskArr`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Table
public import proofs.«01_k».proof.Proof.Lanes

@[expose] public section

noncomputable section

namespace Cert.Proof.K

open Cert.KernelIdeal Cert.KernelIdeal.Gen
open Cert.Proof.Table Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghosts: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The write indices and the mask, as locations of device `d`. -/
abbrev iLoc (d : Dev nD) : Loc nD τ sig := (SparseCore.T d).loc main_arg2
abbrev kLoc (d : Dev nD) : Loc nD τ sig := (SparseCore.T d).loc main_v0

abbrev iV : Memref sig .scVector .hbm S8192 .i32 := Memref.whole main_arg2_scv
abbrev kV : Memref sig .scVector .hbm S8192 .f32 := Memref.whole main_v0_scv
/-- A tile's scratch: the write indices, the table of nodes, its row of the mask. -/
abbrev sI : Memref sig .scVector .vmem S8192 .i32 := Memref.whole cc0_scratch0
abbrev sT : Memref sig .scVector .vmem S65536 .i32 := Memref.whole cc0_scratch1
abbrev sM : Memref sig .scVector .vmem S256 .f32 := Memref.whole cc0_scratch2

/-- The write indices at launch. -/
abbrev I (d : Dev nD) : IVec S8192 32 := m (iLoc d)

/-- What the proof asks of the launch memory: every write names a node. -/
def PreOK : Prop := ∀ (d : Dev nD) (w : S8192.Idx), (I m d w).toNat < 65536

def coordsV (c : Fin (grid0.bound 0)) (s : Fin (grid0.bound 1)) : grid0.Coords :=
  fun | 0 => c | 1 => s | ⟨_ + 2, h⟩ => absurd h (Nat.not_lt.2 (Nat.le_add_left _ _))

abbrev rowK (L : grid0.Coords) : Rect S8192 := Rect.unit (s := S8192) (k0_off17 L) S256.size (k0_off17_inb L)
abbrev kRow (L : grid0.Coords) : Memref sig .scVector .hbm S256 .f32 := (kV : Memref sig .scVector .hbm S8192 .f32).slice (rowK L) (fun _ => rfl)
abbrev rowSet (L : grid0.Coords) : Finset S8192.Idx := (kRow L).view.set

theorem mem_rowSet (L : grid0.Coords) (w : S8192.Idx) : w ∈ rowSet L ↔ rowOff L ≤ (w 0).val ∧ (w 0).val < rowOff L + 256 := by
  have e : rowSet L = (rowK L).set := View.set_slice_whole _ _
  rw [e, Rect.mem_set_unit]
  have h0 : k0_off17 L 0 = rowOff L := by rw [k0_off17_eq]; rfl
  constructor
  · intro h; have := h 0; rw [h0] at this; exact this
  · intro h a; fin_cases a; show k0_off17 L 0 ≤ _ ∧ _ < k0_off17 L 0 + 256; rw [h0]; exact h

variable [FloatOps F]

/-- The mask the call leaves. -/
abbrev M (d : Dev nD) : Buf (Elt F) (kLoc d) := maskArr (F := F) (I m d)

/-- A read share of the write indices; a row of the mask at `f`. -/
abbrev iPts (d : Dev nD) (q : PosShare TreeShare) : sProp 𝕄 := iLoc d ↦{q} I m d
abbrev kPts (d : Dev nD) (S : Finset S8192.Idx) (f : Buf (Elt F) (kLoc d)) : sProp 𝕄 := kLoc d ↦[S]{fullShare} f

/-! ## The tile -/

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)
abbrev cA : GSem nD τ sig := (thr d L, .dma cc0_scoped0.sem)
abbrev cB : GSem nD τ sig := (thr d L, .dma cc0_scoped1.sem)

omit [FloatOps F] in
theorem ownSems0_V :
    (ownSems0 (thr d L) : sProp 𝕄)
      = iprop(semVal (cA d L) 0 ∗ semVal (cB d L) 0 ∗ bigSep (((ownCells (thr d L)).erase (cA d L)).erase (cB d L)) fun g => semVal g 0) := by
  unfold SparseCore.Cfg.ownSems0
  rw [SparseCore.bigSep_erase' ((mem_ownCells (g := cA d L)).mpr ⟨rfl, by show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩)]

omit [FloatOps F] in
/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! The buffers as the tile addresses them. -/

abbrev iAt (q : PosShare TreeShare) : sProp 𝕄 := (iV).view.loc (thr d L) ↦{q} I m d
abbrev kAt (f : Buf (Elt F) (kLoc d)) : sProp 𝕄 := (kRow L).view.loc (thr d L) ↦[(kRow L).view.set]{fullShare} f
abbrev sIAt (f : IVec S8192 32) : sProp 𝕄 := (sI).view.loc (thr d L) ↦{fullShare} f
abbrev sTAt (f : IVec S65536 32) : sProp 𝕄 := (sT).view.loc (thr d L) ↦{fullShare} f
abbrev sMAt (f : FVec F S256 .f32) : sProp 𝕄 := (sM).view.loc (thr d L) ↦{fullShare} f

omit [FloatOps F] in
theorem sT_access (f : IVec S65536 32) :
    (((sT).access (.whole S65536)).loc (thr d L) ↦[((sT).access (.whole S65536)).set]{fullShare} f : sProp 𝕄) = sTAt d L f := by
  have e : ((sT).access (.whole S65536)).set = Finset.univ := Memref.set_access_whole cc0_scratch1
  rw [e]

/-- Sixteen indices loaded from word `n` on. -/
abbrev ld (d : Dev nD) (off : Fin 1 → ℕ) (h : ∀ a, off a + S16.size a ≤ S8192.size a) : IVec S16 32 :=
  (sI).view.readAt (Elt F) (Rect.unit (s := S8192) off S16.size h).toLoadRect (I m d)

omit [FloatOps F] in
theorem ld_lane (off : Fin 1 → ℕ) (h : ∀ a, off a + S16.size a ≤ S8192.size a) (n : ℕ) (hoff : off = ![n]) (l : Fin 16) (hn : n + l.val < 8192) :
    ld m d off h (lane l) = I m d (at8192 (n + l.val) hn) := by
  show I m d ((Rect.unit (s := S8192) off S16.size h).emb (lane l)) = _
  rw [emb8192 off h n hoff l hn]

omit [FloatOps F] in
/-- The check every indexed access makes of its indices passes. -/
theorem ld_chk (hpre : PreOK m) (off : Fin 1 → ℕ) (h : ∀ a, off a + S16.size a ≤ S8192.size a) :
    ∀ a x, ((![ld m d off h] : Fin 1 → IVec S16 32) a x).toNat < S65536.size a := by
  intro a x
  fin_cases a
  exact hpre d _

/-- One group of the first loop. -/
theorem tab_group (k : ℕ) (hk : k < 512) (t : IVec S65536 32) (hT : Tab (I m d) (16 * k) t) (off : Fin 1 → ℕ) (h : ∀ a, off a + S16.size a ≤ S8192.size a)
    (hoff : off = ![16 * k]) (v : IVec S16 32) (hv : ∀ l : Fin 16, v (lane l) = BitVec.ofNat 32 (16 * k + l.val))
    (hc : ∀ a x, ((![ld m d off h] : Fin 1 → IVec S16 32) a x).toNat < S65536.size a) :
    Tab (I m d) (16 * (k + 1)) (((sT).access (.whole S65536)).write (Elt F) t
      (storeIdx (F := F) (s := S65536) (e := .i32) (((sT).access (.whole S65536)).read (Elt F) t) ![ld m d off h] v (scanCount (broadcast S16 1#1) (ld m d off h)).1 false hc) Finset.univ) := by
  have hr : ((sT).access (.whole S65536)).read (Elt F) t = t := Memref.read_access_whole (Elt F) cc0_scratch1 t
  have hw : ∀ w : IVec S65536 32, ((sT).access (.whole S65536)).write (Elt F) t w Finset.univ = w :=
    fun w => Memref.write_access_whole_univ (Elt F) cc0_scratch1 t w
  rw [hw, hr]
  exact Tab_step (I m d) k hk t hT _ (fun l => ld_lane m d off h (16 * k) hoff l (by have := l.isLt; omega)) v hv _ (fun _ => rfl) hc

/-- One group of the second loop. -/
theorem mask_group (t : IVec S65536 32) (hT : Tab (I m d) 8192 t) (g : FVec F S256 .f32) (n : ℕ) (hn : n + 16 ≤ 256)
    (hg : ∀ p : S256.Idx, (p 0).val < n → g p = rowOf (I m d) L p)
    (offM : Fin 1 → ℕ) (hM : ∀ a, offM a + S16.size a ≤ S256.size a) (hoffM : offM = ![n])
    (offI : Fin 1 → ℕ) (hI : ∀ a, offI a + S16.size a ≤ S8192.size a) (hoffI : offI = ![rowOff L + n])
    (hc : ∀ a x, ((![ld m d offI hI] : Fin 1 → IVec S16 32) a x).toNat < S65536.size a) (v : FVec F S16 .f32)
    (hv : ∀ l : Fin 16, v (lane l) = bitOf (loadIdx (F := F) (s := S65536) (e := .i32) (((sT).access (.whole S65536)).read (Elt F) t) ![ld m d offI hI] hc (lane l)
      = BitVec.ofNat 32 (rowOff L + n + l.val))) :
    ∀ p : S256.Idx, (p 0).val < n + 16 → ((sM).access (Rect.unit (s := S256) offM S16.size hM)).write (Elt F) g v Finset.univ p = rowOf (I m d) L p := by
  have hr : ((sT).access (.whole S65536)).read (Elt F) t = t := Memref.read_access_whole (Elt F) cc0_scratch1 t
  rw [hr] at hv
  refine store_step g (rowOf (I m d) L) n hg offM hM hoffM v fun l hl => (hv l).trans ?_
  exact lane_mask (I m d) t hT L n l hl _ (ld_lane m d offI hI (rowOff L + n) hoffI l (by have := rowOff_lt L ⟨n + l.val, hl⟩; simp only at this; omega)) hc

/-- After `k` trips of the first loop the table knows the last writers among the first `128 k` writes. -/
def inv₁ (k : ℕ) (_ : PUnit) : sProp 𝕄 :=
  iprop(sIAt d L (I m d) ∗ ∃ t, ⌜Tab (I m d) (16 * (8 * k)) t⌝ ∗ sTAt d L t)

/-- After `k` trips of the second loop the first `64 k` words of the row are done. -/
def inv₂ (k : ℕ) (_ : PUnit) : sProp 𝕄 :=
  iprop(sIAt d L (I m d) ∗ (∃ t, ⌜Tab (I m d) 8192 t⌝ ∗ sTAt d L t)
    ∗ ∃ g, ⌜∀ p : S256.Idx, (p 0).val < 64 * k → g p = rowOf (I m d) L p⌝ ∗ sMAt d L g)

abbrev body₁ : Fin k0_t1_loop.trips → Unit → Prog (TpuEff nD τ sig (Elt F) Λ₀ (.scVector ((L 0).castLE hcore0) ((L 1).castLE hsub0))) Unit :=
  k0_t1_body (F := F) L iV (Memref.isWhole_whole _) kV (Memref.isWhole_whole _) sI (Memref.isWhole_whole _) sT (Memref.isWhole_whole _) sM (Memref.isWhole_whole _)
    cc0_scoped0 cc0_scoped1 io
abbrev body₂ : Fin k0_t2_loop.trips → Unit → Prog (TpuEff nD τ sig (Elt F) Λ₀ (.scVector ((L 0).castLE hcore0) ((L 1).castLE hsub0))) Unit :=
  k0_t2_body (F := F) L iV (Memref.isWhole_whole _) kV (Memref.isWhole_whole _) sI (Memref.isWhole_whole _) sT (Memref.isWhole_whole _) sM (Memref.isWhole_whole _)
    cc0_scoped0 cc0_scoped1 (widBV L) io

/-- One trip of the first loop: eight groups of sixteen writes. -/
theorem region₁ (hpre : PreOK m) (k : Fin k0_t1_loop.trips) :
    inv₁ m d L k.val ⟨⟩ ⊢ wp frame (wpE (defs₀ (F := F)) 𝒱₀ (thr d L) none) Set.univ (body₁ (F := F) L k ()) fun _ => inv₁ m d L (k.val + 1) ⟨⟩ := by
  have hk : k.val < 64 := k.isLt
  unfold body₁ k0_t1_body
  simp only [k0_part1_eq_skeleton, k0_part2_eq_skeleton]; unfold k0_part1_skel k0_part2_skel
  simp only [Prog.lift, Prog.bind_op, Prog.bind_ret, Prog.pure_eq_ret, Prog.bind_assoc]
  unfold inv₁
  iintro ⟨HI, %t, %hT, Ht⟩
  have h1 := fun hc => tab_group (F := F) m d (8 * k.val + 0) (by omega) _ hT (k0_off1 k) (k0_off1_inb k) ((k0_off1_eq k).trans (by rw [show 128 * k.val = 16 * (8 * k.val + 0) by omega])) _ (pay8_lane k) hc
  have h2 := fun hc => tab_group (F := F) m d (8 * k.val + 1) (by omega) _ (h1 (ld_chk m d hpre _ _)) (k0_off2 k) (k0_off2_inb k) ((k0_off2_eq k).trans (by rw [show 128 * k.val + 16 = 16 * (8 * k.val + 1) by omega])) _ (pay10_lane k) hc
  have h3 := fun hc => tab_group (F := F) m d (8 * k.val + 2) (by omega) _ (h2 (ld_chk m d hpre _ _)) (k0_off3 k) (k0_off3_inb k) ((k0_off3_eq k).trans (by rw [show 128 * k.val + 32 = 16 * (8 * k.val + 2) by omega])) _ (pay12_lane k) hc
  have h4 := fun hc => tab_group (F := F) m d (8 * k.val + 3) (by omega) _ (h3 (ld_chk m d hpre _ _)) (k0_off4 k) (k0_off4_inb k) ((k0_off4_eq k).trans (by rw [show 128 * k.val + 48 = 16 * (8 * k.val + 3) by omega])) _ (pay14_lane k) hc
  have h5 := fun hc => tab_group (F := F) m d (8 * k.val + 4) (by omega) _ (h4 (ld_chk m d hpre _ _)) (k0_off5 k) (k0_off5_inb k) ((k0_off5_eq k).trans (by rw [show 128 * k.val + 64 = 16 * (8 * k.val + 4) by omega])) _ (pay16_lane k) hc
  have h6 := fun hc => tab_group (F := F) m d (8 * k.val + 5) (by omega) _ (h5 (ld_chk m d hpre _ _)) (k0_off6 k) (k0_off6_inb k) ((k0_off6_eq k).trans (by rw [show 128 * k.val + 80 = 16 * (8 * k.val + 5) by omega])) _ (pay18_lane k) hc
  have h7 := fun hc => tab_group (F := F) m d (8 * k.val + 6) (by omega) _ (h6 (ld_chk m d hpre _ _)) (k0_off7 k) (k0_off7_inb k) ((k0_off7_eq k).trans (by rw [show 128 * k.val + 96 = 16 * (8 * k.val + 6) by omega])) _ (pay2_lane k) hc
  have h8 := fun hc => tab_group (F := F) m d (8 * k.val + 7) (by omega) _ (h7 (ld_chk m d hpre _ _)) (k0_off8 k) (k0_off8_inb k) ((k0_off8_eq k).trans (by rw [show 128 * k.val + 112 = 16 * (8 * k.val + 7) by omega])) _ (pay4_lane k) hc
  iapply (wp_load 𝒱₀ (thr d L) none Set.univ (m := sI) (S := Finset.univ) (Finset.subset_univ _)) $$ HI; iintro HI
  rw [wp_assume_of _ _ _ _ (show k0_chk1 (ld m d (k0_off1 k) (k0_off1_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk2 (ld m d (k0_off2 k) (k0_off2_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk3 (ld m d (k0_off3 k) (k0_off3_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk4 (ld m d (k0_off4 k) (k0_off4_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk5 (ld m d (k0_off5 k) (k0_off5_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk6 (ld m d (k0_off6 k) (k0_off6_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk7 (ld m d (k0_off7 k) (k0_off7_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  iapply (wp_load 𝒱₀ (thr d L) none Set.univ (m := sI) (S := Finset.univ) (Finset.subset_univ _)) $$ HI; iintro HI
  rw [wp_assume_of _ _ _ _ (show k0_chk8 (ld m d (k0_off8 k) (k0_off8_inb k)) from ld_chk m d hpre _ _)]
  ihave Ht := (Entails.of_eq (sT_access (F := F) d L _).symm) $$ Ht
  iapply (SparseCore.wp_vectorStoreIdx 𝒱₀ (thr d L) none Set.univ (base := sT)) $$ Ht; iintro Ht
  ihave Ht := (Entails.of_eq (sT_access (F := F) d L _)) $$ Ht
  rw [wp_ret]; imodintro
  isplitl [HI]; · iexact HI
  iexists _; isplitr
  · ipureintro; exact h8 (ld_chk m d hpre _ _)
  · iexact Ht

/-- One trip of the second loop: four groups of sixteen words of the mask. -/
theorem region₂ (hpre : PreOK m) (k : Fin k0_t2_loop.trips) :
    inv₂ m d L k.val ⟨⟩ ⊢ wp frame (wpE (defs₀ (F := F)) 𝒱₀ (thr d L) none) Set.univ (body₂ (F := F) L k ()) fun _ => inv₂ m d L (k.val + 1) ⟨⟩ := by
  have hk : k.val < 4 := k.isLt
  unfold body₂ k0_t2_body
  simp only [k0_part3_eq_skeleton]; unfold k0_part3_skel
  simp only [Prog.lift, Prog.bind_op, Prog.bind_ret, Prog.pure_eq_ret, Prog.bind_assoc]
  unfold inv₂
  iintro ⟨HI, ⟨%t, %hT, Ht⟩, %g, %hg, Hg⟩
  have g1 := fun hc => mask_group (F := F) m d L t hT g (64 * k.val) (by omega) hg (k0_off10 k) (k0_off10_inb k) (k0_off10_eq k) (k0_off9 L k) (k0_off9_inb L k) (k0_off9_eq L k) hc _ (pay20_lane L k _)
  have g2 := fun hc => mask_group (F := F) m d L t hT _ (64 * k.val + 16) (by omega) (g1 (ld_chk m d hpre _ _)) (k0_off12 k) (k0_off12_inb k) (k0_off12_eq k) (k0_off11 L k) (k0_off11_inb L k) (k0_off11_eq L k) hc _ (pay21_lane L k _)
  have g3 := fun hc => mask_group (F := F) m d L t hT _ (64 * k.val + 32) (by omega) (g2 (ld_chk m d hpre _ _)) (k0_off14 k) (k0_off14_inb k) (k0_off14_eq k) (k0_off13 L k) (k0_off13_inb L k) (k0_off13_eq L k) hc _ (pay5_lane L k _)
  have g4 := fun hc => mask_group (F := F) m d L t hT _ (64 * k.val + 48) (by omega) (g3 (ld_chk m d hpre _ _)) (k0_off16 k) (k0_off16_inb k) (k0_off16_eq k) (k0_off15 L k) (k0_off15_inb L k) (k0_off15_eq L k) hc _ (pay6_lane L k _)
  iapply (wp_load 𝒱₀ (thr d L) none Set.univ (m := sI) (S := Finset.univ) (Finset.subset_univ _)) $$ HI; iintro HI
  rw [wp_assume_of _ _ _ _ (show k0_chk9 (ld m d (k0_off9 L k) (k0_off9_inb L k)) from ld_chk m d hpre _ _)]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sM) (S := Finset.univ) (Finset.subset_univ _)) $$ Hg; iintro Hg
  iapply (wp_store 𝒱₀ (thr d L) none Set.univ (m := sM) (r := Rect.unit (s := S256) (k0_off10 k) S16.size (k0_off10_inb k)) (Mk := Finset.univ) (S := Finset.univ) (Finset.subset_univ _)) $$ Hg; iintro Hg
  iapply (wp_load 𝒱₀ (thr d L) none Set.univ (m := sI) (S := Finset.univ) (Finset.subset_univ _)) $$ HI; iintro HI
  rw [wp_assume_of _ _ _ _ (show k0_chk10 (ld m d (k0_off11 L k) (k0_off11_inb L k)) from ld_chk m d hpre _ _)]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sM) (S := Finset.univ) (Finset.subset_univ _)) $$ Hg; iintro Hg
  iapply (wp_store 𝒱₀ (thr d L) none Set.univ (m := sM) (r := Rect.unit (s := S256) (k0_off12 k) S16.size (k0_off12_inb k)) (Mk := Finset.univ) (S := Finset.univ) (Finset.subset_univ _)) $$ Hg; iintro Hg
  iapply (wp_load 𝒱₀ (thr d L) none Set.univ (m := sI) (S := Finset.univ) (Finset.subset_univ _)) $$ HI; iintro HI
  rw [wp_assume_of _ _ _ _ (show k0_chk11 (ld m d (k0_off13 L k) (k0_off13_inb L k)) from ld_chk m d hpre _ _)]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sM) (S := Finset.univ) (Finset.subset_univ _)) $$ Hg; iintro Hg
  iapply (wp_store 𝒱₀ (thr d L) none Set.univ (m := sM) (r := Rect.unit (s := S256) (k0_off14 k) S16.size (k0_off14_inb k)) (Mk := Finset.univ) (S := Finset.univ) (Finset.subset_univ _)) $$ Hg; iintro Hg
  iapply (wp_load 𝒱₀ (thr d L) none Set.univ (m := sI) (S := Finset.univ) (Finset.subset_univ _)) $$ HI; iintro HI
  rw [wp_assume_of _ _ _ _ (show k0_chk12 (ld m d (k0_off15 L k) (k0_off15_inb L k)) from ld_chk m d hpre _ _)]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sM) (S := Finset.univ) (Finset.subset_univ _)) $$ Hg; iintro Hg
  iapply (wp_store 𝒱₀ (thr d L) none Set.univ (m := sM) (r := Rect.unit (s := S256) (k0_off16 k) S16.size (k0_off16_inb k)) (Mk := Finset.univ) (S := Finset.univ) (Finset.subset_univ _)) $$ Hg; iintro Hg
  rw [wp_ret]; imodintro
  isplitl [HI]; · iexact HI
  isplitl [Ht]
  · iexists t; isplitr
    · ipureintro; exact hT
    · iexact Ht
  iexists _; isplitr
  · ipureintro; exact fun p hp => g4 (ld_chk m d hpre _ _) p (by omega)
  · iexact Hg

/-! ## The whole tile -/

omit [FloatOps F] in
theorem sI_pts (f : IVec S8192 32) : ((sI).view.loc (thr d L) ↦[(sI).view.set]{fullShare} f : sProp 𝕄) = sIAt d L f := by
  simp only [Memref.view_whole, View.set_whole]

theorem emb_row (x : S256.Idx) : (kRow L).view.emb x = at8192 (rowOff L + (x 0).val) (rowOff_lt L (x 0)) := by
  show (rowK L).emb x = _
  funext a; fin_cases a; apply Fin.ext
  show k0_off17 L 0 + 1 * (x 0).val = rowOff L + (x 0).val
  rw [k0_off17_eq, Nat.one_mul]; rfl

/-- What the write-out lands in the tile's row. -/
theorem row_lands (f : Buf (Elt F) (kLoc d)) (g : FVec F S256 .f32) (hg : ∀ p : S256.Idx, g p = rowOf (I m d) L p) :
    ∀ w ∈ (kRow L).view.set, (kRow L).view.writes (Elt F) f [⟨Rect.whole S256, g⟩] w = M (F := F) m d w := by
  intro w hw
  obtain ⟨x, -, rfl⟩ := Finset.mem_map.mp hw
  have h := View.read_writes_cons_hit_of_coords (Val := Elt F) (kRow L).view f (Rect.whole S256) g [] x x
    (fun a => by show (x a).val = 0 + 1 * (x a).val; omega)
  rw [View.read_apply, cast_eq] at h
  refine h.trans ((hg x).trans ?_)
  show maskArr (F := F) (I m d) _ = maskArr (F := F) (I m d) _
  rw [emb_row]

abbrev tileProg : Prog (TpuEff nD τ sig (Elt F) Λ₀ (.scVector (cV L) (jV L))) PUnit :=
  cc0__sc_is_last_body (F := F) L iV (Memref.isWhole_whole _) kV (Memref.isWhole_whole _) sI (Memref.isWhole_whole _) sT (Memref.isWhole_whole _) sM (Memref.isWhole_whole _)
    cc0_scoped0 cc0_scoped1

/-- The tile at `L`: from a read share of the write indices and its row of the mask, the row at the mask. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (iPts m d q ∗ kPts d (rowSet L) (m (kLoc d)))
        ∗ scopedBufs (thr d L) ∗ scopedSems0 (thr d L) ∗ owes (thr d L) O W)
      ⊢ wp frame (wpE (defs₀ (F := F)) 𝒱₀ (thr d L) none) Set.univ (tileProg L)
          fun _ => iprop((iPts m d q ∗ kPts d (rowSet L) (M (F := F) m d)) ∗ scopedBufs (thr d L) ∗ scopedSems0 (thr d L)
            ∗ ∃ W', ⌜∀ p ∈ W', p ∈ W ∨ p.2 = none⌝ ∗ owes (thr d L) O W') := by
  unfold tileProg
  simp only [cc0__sc_is_last_body_eq_skeleton]; unfold cc0__sc_is_last_body_skel
  rw [(K (F := F)).scopedBufs_V hF d (cV L) (jV L), SparseCore.Cfg.scopedSems0_V (Val := Elt F) d (cV L) (jV L), ownSems0_V, ownBufs_V]
  iintro ⟨#Hlv, -, ⟨Hi, Hk⟩, ⟨⟨%fI, HI⟩, ⟨%fT, HT⟩, ⟨%fM, HM⟩, Hbufs⟩, ⟨HsA, HsB, Hsems⟩, HO⟩
  ihave Hmw := ((K (F := F)).mayWaits_none (thr := thr d L) hO) $$ Hlv
  ihave Hi := (show iPts m d q ⊢ iAt m d L q from .rfl) $$ Hi
  ihave Hk := (show kPts d (rowSet L) (m (kLoc d)) ⊢ kAt d L (m (kLoc d)) from .rfl) $$ Hk
  ihave HI := (show ((thr d L).loc cc0_scratch0 ↦{fullShare} fI : sProp 𝕄) ⊢ sIAt d L fI from .rfl) $$ HI
  ihave HT := (show ((thr d L).loc cc0_scratch1 ↦{fullShare} fT : sProp 𝕄) ⊢ sTAt d L fT from .rfl) $$ HT
  ihave HM := (show ((thr d L).loc cc0_scratch2 ↦{fullShare} fM : sProp 𝕄) ⊢ sMAt d L fM from .rfl) $$ HM
  sl_exec
  have hfetch : (sI).view.write (Elt F) fI (tile_body.sl.dma0 (F := F) m d) Finset.univ = I m d := View.write_whole_univ _ _ _
  ihave HI := (Entails.of_eq (show ((sI).view.loc (thr d L) ↦{fullShare} (sI).view.write (Elt F) fI (tile_body.sl.dma0 (F := F) m d) Finset.univ : sProp 𝕄)
    = sIAt d L (I m d) by rw [hfetch])) $$ HI
  sl_for (inv₁ m d L) $$ [HI HT]
  case region =>
    intro k _
    exact region₁ m d L hpre k
  · unfold inv₁
    isplitl [HI]; · iexact HI
    iexists fT; isplitr
    · ipureintro; exact Tab_zero _ _
    · iexact HT
  iintro %_ HI
  unfold inv₁
  icases HI with ⟨HI, %t, %hT, HT⟩
  sl_for (inv₂ m d L) $$ [HI HT HM]
  case region =>
    intro k _
    exact region₂ m d L hpre k
  · unfold inv₂
    isplitl [HI]; · iexact HI
    isplitl [HT]
    · iexists t; isplitr
      · ipureintro; exact hT
      · iexact HT
    iexists fM; isplitr
    · ipureintro; exact fun p hp => absurd hp (Nat.not_lt_zero _)
    · iexact HM
  iintro %_ HI
  unfold inv₂
  icases HI with ⟨HI, ⟨%t', %hT', HT⟩, %g, %hg, HM⟩
  sl_exec (disch := exact View.amount_pos _ _ (show 0 < S256.numel by decide))
  sl_step
  have hg' : ∀ p : S256.Idx, g p = rowOf (F := F) (I m d) L p := fun p => hg p (show (p 0).val < 256 from (p 0).isLt)
  isplitl [Hi Hk]
  · isplitl [Hi]; · iexact Hi
    iapply (Entails.of_eq (pointsTo_congr (ℓ := kLoc d) (I := rowSet L) (q := fullShare) (row_lands (F := F) m d L (m (kLoc d)) g hg')))
    iexact Hk
  isplitl [HI HT HM Hbufs]
  · isplitl [HI]; · iexists _; iexact HI
    isplitl [HT]; · iexists _; iexact HT
    isplitl [HM]; · iexists _; iexact HM
    iexact Hbufs
  isplitl [HsA HsB Hsems]
  · isplitl [HsA]; · iexact HsA
    isplitl [HsB]; · iexact HsB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact .inl hp

end Tile

end Cert.Proof.K
-- ==== Proof.Body.lean ====
/-
  The TensorCore call `_tc_body` at one grid point: what its body leaves in its three running sums and, at the last
  point, in the output block, over memrefs named only by their shapes.
-/
module

public import proofs.«01_k».proof.Proof.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A memref owned whole by the TensorCore of device `c`, reading `X`. -/
abbrev own1 (c : Dev nD) {sp : Space} {S : Shape} {e : EltTy} (M : Memref sig .tc sp S e) (X : S.Idx → Elt F e) : sProp 𝕄 :=
  owns (c : Thread nD τ) M fullShare X

abbrev s0 : Memref sig .tc .vmem S4x128 .f32 := Memref.whole cc1_scratch0
abbrev s1 : Memref sig .tc .vmem S4x64 .f32 := Memref.whole cc1_scratch1
abbrev s2 : Memref sig .tc .vmem S4x1 .f32 := Memref.whole cc1_scratch2

/-- The first point's condition. -/
def cond1 (i : grid1.Coords) : Prop := Scalar.cmpi .ne (Scalar.extui (Scalar.cmpi .eq (BitVec.ofNat 32 (i 0).val) 0#32) : BitVec 32) 0#32 = 1#1
instance (i : grid1.Coords) : Decidable (cond1 i) := by unfold cond1; infer_instance

/-- The running sums as the accumulation finds them: reset at the first point. -/
def in0 (i : grid1.Coords) (X2 A : FVec F S4x128 .f32) : FVec F S4x128 .f32 := if cond1 i then k1_pay5 X2 else A
def in1 (i : grid1.Coords) (X3 B : FVec F S4x64 .f32) : FVec F S4x64 .f32 := if cond1 i then k1_pay6 X3 else B
def in2 (i : grid1.Coords) (C : FVec F S4x1 .f32) : FVec F S4x1 .f32 := if cond1 i then k1_pay7 else C

/-- The six blocks of columns of the output. -/
def outOf (X2 A : FVec F S4x128 .f32) (X3 B : FVec F S4x64 .f32) (C : FVec F S4x1 .f32) : FVec F S4x386 .f32 :=
  View.canon (Val := Elt F) (e := .f32)
    [⟨Rect.unit (s := S4x386) ![0, 385] S4x1.size inb_S4x386_S4x1_0_385, C⟩,
     ⟨Rect.unit (s := S4x386) ![0, 321] S4x64.size inb_S4x386_S4x64_0_321, B⟩,
     ⟨Rect.unit (s := S4x386) ![0, 193] S4x128.size inb_S4x386_S4x128_0_193, A⟩,
     ⟨Rect.unit (s := S4x386) ![0, 192] S4x1.size inb_S4x386_S4x1_0_192, k1_pay4 (F := F)⟩,
     ⟨Rect.unit (s := S4x386) ![0, 128] S4x64.size inb_S4x386_S4x64_0_128, k1_pay3 X3⟩,
     ⟨Rect.unit (s := S4x386) ![0, 0] S4x128.size inb_S4x386_S4x128_0_0, k1_pay2 X2⟩]

/-- The whole of a shape as a rectangle from the origin: its indices are the shape's. -/
theorem unit_idx {S : Shape} (off : Fin S.rank → ℕ) (h0 : ∀ a, off a = 0) (inb : ∀ a, off a + S.size a ≤ S.size a) (j : S.Idx) :
    (Rect.unit (s := S) off S.size inb).emb j = j := by
  funext a
  apply Fin.ext
  show off a + 1 * (j a).val = _
  rw [h0]; omega

theorem readAt_full {κ : Kind} {sp : Space} {S : Shape} {e : EltTy} (M : Memref sig κ sp S e) (f : M.view.ty.Contents (Elt F))
    (X : S.Idx → Elt F e) (hf : M.view.read (Elt F) f = X) (off : Fin S.rank → ℕ) (h0 : ∀ a, off a = 0)
    (inb : ∀ a, off a + S.size a ≤ S.size a) :
    M.view.readAt (Elt F) (Rect.unit (s := S) off S.size inb).toLoadRect f = X := by
  subst hf
  rw [View.readAt_eq_ld]
  funext j
  exact congrArg (M.view.read (Elt F) f) (unit_idx off h0 inb j)

theorem read_writes_full {κ : Kind} {sp : Space} {S : Shape} {e : EltTy} (M : Memref sig κ sp S e) (g : M.view.ty.Contents (Elt F))
    (off : Fin S.rank → ℕ) (h0 : ∀ a, off a = 0) (inb : ∀ a, off a + S.size a ≤ S.size a) (w : S.Idx → Elt F e)
    (L : List (View.Piece (Elt F) S e)) :
    M.view.read (Elt F) (M.view.writes (Elt F) g (⟨Rect.unit (s := S) off S.size inb, w⟩ :: L)) = w := by
  funext j
  have := View.read_writes_cons_emb M.view g (Rect.unit (s := S) off S.size inb) w L j
  rwa [unit_idx off h0 inb j] at this

theorem readCov_full {κ : Kind} {sp : Space} {S : Shape} {e : EltTy} (M : Memref sig κ sp S e)
    (off : Fin S.rank → ℕ) (inb : ∀ a, off a + S.size a ≤ S.size a) (w : S.Idx → Elt F e)
    (L : List (View.Piece (Elt F) S e)) :
    M.view.readCov (Val := Elt F) (⟨Rect.unit (s := S) off S.size inb, w⟩ :: L) (Rect.unit (s := S) off S.size inb).toLoadRect = w :=
  View.readCov_cons_toLoadRect _ _ _ _

theorem out_cover (X2 A : FVec F S4x128 .f32) (X3 B : FVec F S4x64 .f32) (C : FVec F S4x1 .f32) (Z : FVec F S4x1 .f32) (y : S4x386.Idx) :
    ∃ p ∈ ([⟨Rect.unit (s := S4x386) ![0, 385] S4x1.size inb_S4x386_S4x1_0_385, C⟩,
     ⟨Rect.unit (s := S4x386) ![0, 321] S4x64.size inb_S4x386_S4x64_0_321, B⟩,
     ⟨Rect.unit (s := S4x386) ![0, 193] S4x128.size inb_S4x386_S4x128_0_193, A⟩,
     ⟨Rect.unit (s := S4x386) ![0, 192] S4x1.size inb_S4x386_S4x1_0_192, Z⟩,
     ⟨Rect.unit (s := S4x386) ![0, 128] S4x64.size inb_S4x386_S4x64_0_128, X3⟩,
     ⟨Rect.unit (s := S4x386) ![0, 0] S4x128.size inb_S4x386_S4x128_0_0, X2⟩] : List (View.Piece (Elt F) S4x386 .f32)), y ∈ p.1.set := by
  have h0 : (y 0).val < 4 := (y 0).isLt
  have h1 : (y 1).val < 386 := (y 1).isLt
  have key : ∀ (o n : ℕ) (inb), o ≤ (y 1).val → (y 1).val < o + n → y ∈ (Rect.unit (s := S4x386) ![0, o] ![4, n] inb).set := fun o n inb ho hn =>
    Rect.mem_set_unit.mpr fun a => by
      fin_cases a
      · exact ⟨Nat.zero_le _, by show (y 0).val < 0 + 4; omega⟩
      · exact ⟨ho, hn⟩
  by_cases c5 : 385 ≤ (y 1).val
  · exact ⟨_, List.mem_cons_self, key 385 1 inb_S4x386_S4x1_0_385 c5 (by omega)⟩
  by_cases c4 : 321 ≤ (y 1).val
  · exact ⟨_, List.mem_cons_of_mem _ List.mem_cons_self, key 321 64 inb_S4x386_S4x64_0_321 c4 (by omega)⟩
  by_cases c3 : 193 ≤ (y 1).val
  · exact ⟨_, List.mem_cons_of_mem _ (List.mem_cons_of_mem _ List.mem_cons_self), key 193 128 inb_S4x386_S4x128_0_193 c3 (by omega)⟩
  by_cases c2 : 192 ≤ (y 1).val
  · exact ⟨_, List.mem_cons_of_mem _ (List.mem_cons_of_mem _ (List.mem_cons_of_mem _ List.mem_cons_self)), key 192 1 inb_S4x386_S4x1_0_192 c2 (by omega)⟩
  by_cases c1 : 128 ≤ (y 1).val
  · exact ⟨_, List.mem_cons_of_mem _ (List.mem_cons_of_mem _ (List.mem_cons_of_mem _ (List.mem_cons_of_mem _ List.mem_cons_self))),
      key 128 64 inb_S4x386_S4x64_0_128 c1 (by omega)⟩
  · exact ⟨_, List.mem_cons_of_mem _ (List.mem_cons_of_mem _ (List.mem_cons_of_mem _ (List.mem_cons_of_mem _ (List.mem_cons_of_mem _ List.mem_cons_self)))),
      key 0 128 inb_S4x386_S4x128_0_0 (Nat.zero_le _) (by omega)⟩

/-- The body at the first point. -/
theorem first_run (c : Dev nD) (i : grid1.Coords)
    (M1 : Memref sig .tc .vmem S1x1x2048 .f32) (h1 : M1.IsWhole) (M2 : Memref sig .tc .vmem S4x128 .f32) (h2 : M2.IsWhole)
    (M3 : Memref sig .tc .vmem S4x64 .f32) (h3 : M3.IsWhole) (M4 : Memref sig .tc .vmem S4x2048 .f32) (h4 : M4.IsWhole)
    (M5 : Memref sig .tc .vmem S4x2048x128 .f32) (h5 : M5.IsWhole) (M6 : Memref sig .tc .vmem S4x2048x64 .f32) (h6 : M6.IsWhole)
    (M7 : Memref sig .tc .vmem S4x386 .f32) (h7 : M7.IsWhole)
    (X1 : S1x1x2048.Idx → Elt F .f32) (X2 : S4x128.Idx → Elt F .f32) (X3 : S4x64.Idx → Elt F .f32) (X4 : S4x2048.Idx → Elt F .f32)
    (X5 : S4x2048x128.Idx → Elt F .f32) (X6 : S4x2048x64.Idx → Elt F .f32) (X7 : S4x386.Idx → Elt F .f32)
    (A : S4x128.Idx → Elt F .f32) (B : S4x64.Idx → Elt F .f32) (C : S4x1.Idx → Elt F .f32) (Q : PUnit → sProp 𝕄) (hc1 : cond1 i) :
    iprop(own1 c M1 X1 ∗ own1 c M2 X2 ∗ own1 c M3 X3 ∗ own1 c M4 X4 ∗ own1 c M5 X5 ∗ own1 c M6 X6 ∗ own1 c M7 X7
        ∗ own1 c s0 A ∗ own1 c s1 B ∗ own1 c s2 C
        ∗ (iprop(own1 c M1 X1 ∗ own1 c M2 X2 ∗ own1 c M3 X3 ∗ own1 c M4 X4 ∗ own1 c M5 X5 ∗ own1 c M6 X6
            ∗ own1 c M7 (if k1_cond2 i = 1#1 then outOf X2 (k1_pay9 X1 (in0 i X2 A) X5) X3 (k1_pay10 X1 (in1 i X3 B) X6) (k1_pay1 (in2 i C) (k1_pay11 X4)) else X7)
            ∗ own1 c s0 (k1_pay9 X1 (in0 i X2 A) X5) ∗ own1 c s1 (k1_pay10 X1 (in1 i X3 B) X6) ∗ own1 c s2 (k1_pay1 (in2 i C) (k1_pay11 X4))) -∗ Q ⟨⟩))
      ⊢ wp frame (wpE (defs₀ (F := F)) 𝒱₀ (c : Thread nD τ) none) Set.univ
          (cc1__tc_body i M1 h1 M2 h2 M3 h3 M4 h4 M5 h5 M6 h6 M7 h7 s0 (Memref.isWhole_whole _) s1 (Memref.isWhole_whole _) s2 (Memref.isWhole_whole _)) Q := by
  simp only [cc1__tc_body_eq_skeleton]; unfold cc1__tc_body_skel
  simp only [k1_part1_eq_skeleton]; unfold k1_part1_skel
  unfold own1 owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %d0, G0⟩, ⟨%g1, %d1, G1⟩, ⟨%g2, %d2, G2⟩, Hk⟩
  have hc1' := hc1
  unfold cond1 at hc1'
  rw [dif_pos hc1']
  sl_exec
  have z2 : ∀ a : Fin 2, (![0, 0] : Fin 2 → ℕ) a = 0 := by decide
  have z3 : ∀ a : Fin 3, (![0, 0, 0] : Fin 3 → ℕ) a = 0 := by decide
  have q1 := readAt_full M1 f1 X1 e1 ![0, 0, 0] z3 inb_S1x1x2048_S1x1x2048_0_0_0
  have q2 := readAt_full M2 f2 X2 e2 ![0, 0] z2 inb_S4x128_S4x128_0_0
  have q3 := readAt_full M3 f3 X3 e3 ![0, 0] z2 inb_S4x64_S4x64_0_0
  have q4 := readAt_full M4 f4 X4 e4 ![0, 0] z2 inb_S4x2048_S4x2048_0_0
  have q5 := readAt_full M5 f5 X5 e5 ![0, 0, 0] z3 inb_S4x2048x128_S4x2048x128_0_0_0
  have q6 := readAt_full M6 f6 X6 e6 ![0, 0, 0] z3 inb_S4x2048x64_S4x2048x64_0_0_0
  have w5 : first_run.sl.v5 c M2 f2 = in0 i X2 A := by
    delta first_run.sl.v5 first_run.sl.G0_1
    refine (readCov_full s0 ![0, 0] inb_S4x128_S4x128_0_0 _ _).trans ?_
    rw [q2]; unfold in0; rw [if_pos hc1]
  have w15 : first_run.sl.v15 c M3 f3 = in1 i X3 B := by
    delta first_run.sl.v15 first_run.sl.G1_1
    refine (readCov_full s1 ![0, 0] inb_S4x64_S4x64_0_0 _ _).trans ?_
    rw [q3]; unfold in1; rw [if_pos hc1]
  have w25 : first_run.sl.v25 c = in2 (F := F) i C := by
    delta first_run.sl.v25 first_run.sl.G2_1
    refine (readCov_full s2 ![0, 0] inb_S4x1_S4x1_0_0 _ _).trans ?_
    unfold in2; rw [if_pos hc1]
  have r0 : View.read (Elt F) s0.view (s0.view.writes (Elt F) g0 (first_run.sl.G0_2 c M1 M2 M5 f1 f2 f5)) = k1_pay9 X1 (in0 i X2 A) X5 := by
    delta first_run.sl.G0_2
    refine (read_writes_full s0 g0 ![0, 0] z2 inb_S4x128_S4x128_0_0 _ _).trans ?_
    rw [q1, q5, w5]
  have r1 : View.read (Elt F) s1.view (s1.view.writes (Elt F) g1 (first_run.sl.G1_2 c M1 M3 M6 f1 f3 f6)) = k1_pay10 X1 (in1 i X3 B) X6 := by
    delta first_run.sl.G1_2
    refine (read_writes_full s1 g1 ![0, 0] z2 inb_S4x64_S4x64_0_0 _ _).trans ?_
    rw [q1, q6, w15]
  have r2 : View.read (Elt F) s2.view (s2.view.writes (Elt F) g2 (first_run.sl.G2_2 c i M4 f4)) = k1_pay1 (in2 i C) (k1_pay11 X4) := by
    delta first_run.sl.G2_2
    refine (read_writes_full s2 g2 ![0, 0] z2 inb_S4x1_S4x1_0_0 _ _).trans ?_
    rw [q4, w25]
  have v45 : first_run.sl.v45 c M1 M2 M5 f1 f2 f5 = k1_pay9 X1 (in0 i X2 A) X5 := by
    delta first_run.sl.v45 first_run.sl.G0_2
    refine (readCov_full s0 ![0, 0] inb_S4x128_S4x128_0_0 _ _).trans ?_
    rw [q1, q5, w5]
  have v47 : first_run.sl.v47 c M1 M3 M6 f1 f3 f6 = k1_pay10 X1 (in1 i X3 B) X6 := by
    delta first_run.sl.v47 first_run.sl.G1_2
    refine (readCov_full s1 ![0, 0] inb_S4x64_S4x64_0_0 _ _).trans ?_
    rw [q1, q6, w15]
  have v49 : first_run.sl.v49 c i M4 f4 = k1_pay1 (in2 i C) (k1_pay11 X4) := by
    delta first_run.sl.v49 first_run.sl.G2_2
    refine (readCov_full s2 ![0, 0] inb_S4x1_S4x1_0_0 _ _).trans ?_
    rw [q4, w25]
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]
  · iexists _; isplitr; swap; · iexact H7
    ipureintro
    split
    · rw [v45, v47, v49]
      refine (View.read_writes_eq_canon _ _ _ (out_cover _ _ _ _ _ _)).trans ?_
      unfold outOf
      rw [← q2, ← q3]
    · exact e7
  isplitl [G0]; · iexists _; isplitr; swap; · iexact G0
                  ipureintro; exact r0
  isplitl [G1]; · iexists _; isplitr; swap; · iexact G1
                  ipureintro; exact r1
  iexists _; isplitr; swap; · iexact G2
  ipureintro; exact r2

/-- The body at a later point. -/
theorem rest_run (c : Dev nD) (i : grid1.Coords)
    (M1 : Memref sig .tc .vmem S1x1x2048 .f32) (h1 : M1.IsWhole) (M2 : Memref sig .tc .vmem S4x128 .f32) (h2 : M2.IsWhole)
    (M3 : Memref sig .tc .vmem S4x64 .f32) (h3 : M3.IsWhole) (M4 : Memref sig .tc .vmem S4x2048 .f32) (h4 : M4.IsWhole)
    (M5 : Memref sig .tc .vmem S4x2048x128 .f32) (h5 : M5.IsWhole) (M6 : Memref sig .tc .vmem S4x2048x64 .f32) (h6 : M6.IsWhole)
    (M7 : Memref sig .tc .vmem S4x386 .f32) (h7 : M7.IsWhole)
    (X1 : S1x1x2048.Idx → Elt F .f32) (X2 : S4x128.Idx → Elt F .f32) (X3 : S4x64.Idx → Elt F .f32) (X4 : S4x2048.Idx → Elt F .f32)
    (X5 : S4x2048x128.Idx → Elt F .f32) (X6 : S4x2048x64.Idx → Elt F .f32) (X7 : S4x386.Idx → Elt F .f32)
    (A : S4x128.Idx → Elt F .f32) (B : S4x64.Idx → Elt F .f32) (C : S4x1.Idx → Elt F .f32) (Q : PUnit → sProp 𝕄) (hc1 : ¬ cond1 i) :
    iprop(own1 c M1 X1 ∗ own1 c M2 X2 ∗ own1 c M3 X3 ∗ own1 c M4 X4 ∗ own1 c M5 X5 ∗ own1 c M6 X6 ∗ own1 c M7 X7
        ∗ own1 c s0 A ∗ own1 c s1 B ∗ own1 c s2 C
        ∗ (iprop(own1 c M1 X1 ∗ own1 c M2 X2 ∗ own1 c M3 X3 ∗ own1 c M4 X4 ∗ own1 c M5 X5 ∗ own1 c M6 X6
            ∗ own1 c M7 (if k1_cond2 i = 1#1 then outOf X2 (k1_pay9 X1 (in0 i X2 A) X5) X3 (k1_pay10 X1 (in1 i X3 B) X6) (k1_pay1 (in2 i C) (k1_pay11 X4)) else X7)
            ∗ own1 c s0 (k1_pay9 X1 (in0 i X2 A) X5) ∗ own1 c s1 (k1_pay10 X1 (in1 i X3 B) X6) ∗ own1 c s2 (k1_pay1 (in2 i C) (k1_pay11 X4))) -∗ Q ⟨⟩))
      ⊢ wp frame (wpE (defs₀ (F := F)) 𝒱₀ (c : Thread nD τ) none) Set.univ
          (cc1__tc_body i M1 h1 M2 h2 M3 h3 M4 h4 M5 h5 M6 h6 M7 h7 s0 (Memref.isWhole_whole _) s1 (Memref.isWhole_whole _) s2 (Memref.isWhole_whole _)) Q := by
  simp only [cc1__tc_body_eq_skeleton]; unfold cc1__tc_body_skel
  simp only [k1_part1_eq_skeleton]; unfold k1_part1_skel
  unfold own1 owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %d0, G0⟩, ⟨%g1, %d1, G1⟩, ⟨%g2, %d2, G2⟩, Hk⟩
  have hc1' := hc1
  unfold cond1 at hc1'
  rw [dif_neg hc1']
  sl_exec
  have z2 : ∀ a : Fin 2, (![0, 0] : Fin 2 → ℕ) a = 0 := by decide
  have z3 : ∀ a : Fin 3, (![0, 0, 0] : Fin 3 → ℕ) a = 0 := by decide
  have q1 := readAt_full M1 f1 X1 e1 ![0, 0, 0] z3 inb_S1x1x2048_S1x1x2048_0_0_0
  have q2 := readAt_full M2 f2 X2 e2 ![0, 0] z2 inb_S4x128_S4x128_0_0
  have q3 := readAt_full M3 f3 X3 e3 ![0, 0] z2 inb_S4x64_S4x64_0_0
  have q4 := readAt_full M4 f4 X4 e4 ![0, 0] z2 inb_S4x2048_S4x2048_0_0
  have q5 := readAt_full M5 f5 X5 e5 ![0, 0, 0] z3 inb_S4x2048x128_S4x2048x128_0_0_0
  have q6 := readAt_full M6 f6 X6 e6 ![0, 0, 0] z3 inb_S4x2048x64_S4x2048x64_0_0_0
  have w5 := readAt_full s0 g0 A d0 ![0, 0] z2 inb_S4x128_S4x128_0_0
  have w15 := readAt_full s1 g1 B d1 ![0, 0] z2 inb_S4x64_S4x64_0_0
  have w25 := readAt_full s2 g2 C d2 ![0, 0] z2 inb_S4x1_S4x1_0_0
  have n0 : in0 i X2 A = A := if_neg hc1
  have n1 : in1 i X3 B = B := if_neg hc1
  have n2 : in2 i C = C := if_neg hc1
  rw [n0, n1, n2]
  have r0 : View.read (Elt F) s0.view (s0.view.writes (Elt F) g0 (rest_run.sl.G0_1 c M1 M5 f1 f5 g0)) = k1_pay9 X1 A X5 := by
    delta rest_run.sl.G0_1
    refine (read_writes_full s0 g0 ![0, 0] z2 inb_S4x128_S4x128_0_0 _ _).trans ?_
    rw [q1, q5, w5]
  have r1 : View.read (Elt F) s1.view (s1.view.writes (Elt F) g1 (rest_run.sl.G1_1 c M1 M6 f1 f6 g1)) = k1_pay10 X1 B X6 := by
    delta rest_run.sl.G1_1
    refine (read_writes_full s1 g1 ![0, 0] z2 inb_S4x64_S4x64_0_0 _ _).trans ?_
    rw [q1, q6, w15]
  have r2 : View.read (Elt F) s2.view (s2.view.writes (Elt F) g2 (rest_run.sl.G2_1 c i M4 f4 g2)) = k1_pay1 C (k1_pay11 X4) := by
    delta rest_run.sl.G2_1
    refine (read_writes_full s2 g2 ![0, 0] z2 inb_S4x1_S4x1_0_0 _ _).trans ?_
    rw [q4, w25]
  have v45 : rest_run.sl.v45 c M1 M5 f1 f5 g0 = k1_pay9 X1 A X5 := by
    delta rest_run.sl.v45 rest_run.sl.G0_1
    refine (readCov_full s0 ![0, 0] inb_S4x128_S4x128_0_0 _ _).trans ?_
    rw [q1, q5, w5]
  have v47 : rest_run.sl.v47 c M1 M6 f1 f6 g1 = k1_pay10 X1 B X6 := by
    delta rest_run.sl.v47 rest_run.sl.G1_1
    refine (readCov_full s1 ![0, 0] inb_S4x64_S4x64_0_0 _ _).trans ?_
    rw [q1, q6, w15]
  have v49 : rest_run.sl.v49 c i M4 f4 g2 = k1_pay1 C (k1_pay11 X4) := by
    delta rest_run.sl.v49 rest_run.sl.G2_1
    refine (readCov_full s2 ![0, 0] inb_S4x1_S4x1_0_0 _ _).trans ?_
    rw [q4, w25]
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]
  · iexists _; isplitr; swap; · iexact H7
    ipureintro
    split
    · rw [v45, v47, v49]
      refine (View.read_writes_eq_canon _ _ _ (out_cover _ _ _ _ _ _)).trans ?_
      unfold outOf
      rw [← q2, ← q3]
    · exact e7
  isplitl [G0]; · iexists _; isplitr; swap; · iexact G0
                  ipureintro; exact r0
  isplitl [G1]; · iexists _; isplitr; swap; · iexact G1
                  ipureintro; exact r1
  iexists _; isplitr; swap; · iexact G2
  ipureintro; exact r2

end Cert.Proof.K

end
-- ==== Proof.Region.lean ====
/-
  The TensorCore call as a region of the run: its proof data over any contents of the buffers it is entered with, the
  running sums carried from point to point, the body's obligation and the region's record.
-/
module

public import proofs.«01_k».proof.Proof.Body
public import Idealize.ShloMosaic.Lib.Pipeline.RegionArraysS

@[expose] public section

noncomputable section

namespace Cert.Proof.K

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The running sums -/

section Sums

variable (V : Valuation τ sig (Elt F))

/-- The block of window `w`'s array at point `t`. -/
abbrev blkAt (w : Fin 7) (t : Fin cfg1.N) : ((cfg1.win w).xblock (cfg1.grid.coords t)).Idx → Elt F (cfg1.win w).elt :=
  ((cfg1.win w).blk t).view.read (Elt F) (V (Proc.devRef .tc (Pipeline.arrRef spec1 w)))

abbrev b0 (t : Fin cfg1.N) : S1x1x2048.Idx → Elt F .f32 := blkAt V 0 t
abbrev b1 (t : Fin cfg1.N) : S4x128.Idx → Elt F .f32 := blkAt V 1 t
abbrev b2 (t : Fin cfg1.N) : S4x64.Idx → Elt F .f32 := blkAt V 2 t
abbrev b3 (t : Fin cfg1.N) : S4x2048.Idx → Elt F .f32 := blkAt V 3 t
abbrev b4 (t : Fin cfg1.N) : S4x2048x128.Idx → Elt F .f32 := blkAt V 4 t
abbrev b5 (t : Fin cfg1.N) : S4x2048x64.Idx → Elt F .f32 := blkAt V 5 t

/-- The three sums after point `t`, from what they were before it. -/
def nx0 (t : Fin cfg1.N) (A : FVec F S4x128 .f32) : FVec F S4x128 .f32 := k1_pay9 (b0 V t) (in0 (grid1.coords t) (b1 V t) A) (b4 V t)
def nx1 (t : Fin cfg1.N) (B : FVec F S4x64 .f32) : FVec F S4x64 .f32 := k1_pay10 (b0 V t) (in1 (grid1.coords t) (b2 V t) B) (b5 V t)
def nx2 (t : Fin cfg1.N) (C : FVec F S4x1 .f32) : FVec F S4x1 .f32 := k1_pay1 (in2 (grid1.coords t) C) (k1_pay11 (b3 V t))

/-- The three sums before point `n`; before the first one they are nothing in particular. -/
def acc0 : ℕ → FVec F S4x128 .f32
  | 0 => fun _ => Scalar.ofBits .f32 0#32
  | n + 1 => if h : n < cfg1.N then nx0 V ⟨n, h⟩ (acc0 n) else acc0 n
def acc1 : ℕ → FVec F S4x64 .f32
  | 0 => fun _ => Scalar.ofBits .f32 0#32
  | n + 1 => if h : n < cfg1.N then nx1 V ⟨n, h⟩ (acc1 n) else acc1 n
def acc2 : ℕ → FVec F S4x1 .f32
  | 0 => fun _ => Scalar.ofBits .f32 0#32
  | n + 1 => if h : n < cfg1.N then nx2 V ⟨n, h⟩ (acc2 n) else acc2 n

theorem cond1_iff : ∀ t : Fin grid1.N, cond1 (grid1.coords t) ↔ t.val = 0 := by decide +kernel
theorem cond2_iff : ∀ t : Fin grid1.N, k1_cond2 (grid1.coords t) = 1#1 ↔ t.val % 4 = 3 := by decide +kernel

/-- A sum found after the first point is the one carried; at the first point what is found is not read. -/
theorem acc0_succ (t : Fin cfg1.N) (A : FVec F S4x128 .f32) (hA : t.val ≠ 0 → A = acc0 V t.val) : nx0 V t A = acc0 V (t.val + 1) := by
  rw [acc0, dif_pos t.isLt]
  by_cases h : t.val = 0
  · unfold nx0 in0; rw [if_pos ((cond1_iff t).mpr h), if_pos ((cond1_iff t).mpr h)]
  · rw [hA h]
theorem acc1_succ (t : Fin cfg1.N) (B : FVec F S4x64 .f32) (hB : t.val ≠ 0 → B = acc1 V t.val) : nx1 V t B = acc1 V (t.val + 1) := by
  rw [acc1, dif_pos t.isLt]
  by_cases h : t.val = 0
  · unfold nx1 in1; rw [if_pos ((cond1_iff t).mpr h), if_pos ((cond1_iff t).mpr h)]
  · rw [hB h]
theorem acc2_succ (t : Fin cfg1.N) (C : FVec F S4x1 .f32) (hC : t.val ≠ 0 → C = acc2 V t.val) : nx2 V t C = acc2 V (t.val + 1) := by
  rw [acc2, dif_pos t.isLt]
  by_cases h : t.val = 0
  · unfold nx2 in2; rw [if_pos ((cond1_iff t).mpr h), if_pos ((cond1_iff t).mpr h)]
  · rw [hC h]

/-- The output block as point `t` leaves it, if it writes it. -/
def outAt (t : Fin cfg1.N) : FVec F S4x386 .f32 := outOf (b1 V t) (acc0 V (t.val + 1)) (b2 V t) (acc1 V (t.val + 1)) (acc2 V (t.val + 1))

/-- The scratch buffers before point `n`: the sums carried, anything before the first point. -/
def Sums (c : Dev nD) (n : ℕ) : sProp 𝕄 :=
  iprop(∃ A B C, ⌜n ≠ 0 → A = acc0 V n ∧ B = acc1 V n ∧ C = acc2 V n⌝ ∗ own1 c s0 A ∗ own1 c s1 B ∗ own1 c s2 C)

/-- The proof data: the arrays at `V`, the inputs' buffers as fetched, the output's as the last point leaves it, the sums carried,
    what the core owes throughout. -/
def dat (O : Dev nD → CellTallies nD τ sig (HIx 1)) (c : Dev nD) : Dat τ (Elt F) (HIx 1) ℕ UU ℕ cfg1 c where
  A w := V (Proc.devRef .tc (Pipeline.arrRef spec1 w))
  after w t := match w with
    | ⟨0, _⟩ => b0 V t
    | ⟨1, _⟩ => b1 V t
    | ⟨2, _⟩ => b2 V t
    | ⟨3, _⟩ => b3 V t
    | ⟨4, _⟩ => b4 V t
    | ⟨5, _⟩ => b5 V t
    | ⟨6, _⟩ => outAt V t
  Φ t := Sums V c t.val
  q _ := fullShare
  owed _ := O c

end Sums

section Obligation

variable (V : Valuation τ sig (Elt F)) (O : Dev nD → CellTallies nD τ sig (HIx 1)) (c : Dev nD)

theorem before0 (t : Fin cfg1.N) (d) : (dat V O c).before 0 t d = b0 V t :=
  ((dat V O c).before_in_eq_fetched 0 rfl (fun _ => rfl) (fun _ _ _ => rfl) (fun _ => rfl) t d).trans rfl
theorem before1 (t : Fin cfg1.N) (d) : (dat V O c).before 1 t d = b1 V t :=
  ((dat V O c).before_in_eq_fetched 1 rfl (fun _ => rfl) (fun _ _ _ => rfl) (fun _ => rfl) t d).trans rfl
theorem before2 (t : Fin cfg1.N) (d) : (dat V O c).before 2 t d = b2 V t :=
  ((dat V O c).before_in_eq_fetched 2 rfl (fun _ => rfl) (fun _ _ _ => rfl) (fun _ => rfl) t d).trans rfl
theorem before3 (t : Fin cfg1.N) (d) : (dat V O c).before 3 t d = b3 V t :=
  ((dat V O c).before_in_eq_fetched 3 rfl (fun _ => rfl) (fun _ _ _ => rfl) (fun _ => rfl) t d).trans rfl
theorem before4 (t : Fin cfg1.N) (d) : (dat V O c).before 4 t d = b4 V t :=
  ((dat V O c).before_in_eq_fetched 4 rfl (fun _ => rfl) (fun _ _ _ => rfl) (fun _ => rfl) t d).trans rfl
theorem before5 (t : Fin cfg1.N) (d) : (dat V O c).before 5 t d = b5 V t :=
  ((dat V O c).before_in_eq_fetched 5 rfl (fun _ => rfl) (fun _ _ _ => rfl) (fun _ => rfl) t d).trans rfl

/-- The body table's row at a point is the body as `bodyAt1` spells it. -/
theorem defs₀_row (t : Fin cfg1.N) : defs₀ (F := F) .tc cfg1.body (cfg1.bodyArgs t (cfg1.slots t)) = bodyAt1 t := by
  unfold defs₀; rfl

/-- The body at any point, over the windows' blocks and the sums carried. -/
theorem body_run (t : Fin cfg1.N) (X7 : S4x386.Idx → Elt F .f32) (Q : PUnit → sProp 𝕄) :
    iprop(own1 c (st1_0 t) (b0 V t) ∗ own1 c (st1_1 t) (b1 V t) ∗ own1 c (st1_2 t) (b2 V t) ∗ own1 c (st1_3 t) (b3 V t)
        ∗ own1 c (st1_4 t) (b4 V t) ∗ own1 c (st1_5 t) (b5 V t) ∗ own1 c (st1_6 t) X7 ∗ Sums V c t.val
        ∗ (iprop(own1 c (st1_0 t) (b0 V t) ∗ own1 c (st1_1 t) (b1 V t) ∗ own1 c (st1_2 t) (b2 V t) ∗ own1 c (st1_3 t) (b3 V t)
            ∗ own1 c (st1_4 t) (b4 V t) ∗ own1 c (st1_5 t) (b5 V t)
            ∗ own1 c (st1_6 t) (if k1_cond2 (grid1.coords t) = 1#1 then outAt V t else X7) ∗ Sums V c (t.val + 1)) -∗ Q ⟨⟩))
      ⊢ wp frame (wpE (defs₀ (F := F)) 𝒱₀ (c : Thread nD τ) none) Set.univ (bodyAt1 t) Q := by
  unfold Sums
  iintro ⟨H0, H1, H2, H3, H4, H5, H6, ⟨%A, %B, %C, %hs, HA, HB, HC⟩, Hk⟩
  have k0 : nx0 V t A = acc0 V (t.val + 1) := acc0_succ V t A fun h => (hs h).1
  have k1 : nx1 V t B = acc1 V (t.val + 1) := acc1_succ V t B fun h => (hs h).2.1
  have k2 : nx2 V t C = acc2 V (t.val + 1) := acc2_succ V t C fun h => (hs h).2.2
  by_cases hc : cond1 (grid1.coords t)
  · unfold bodyAt1
    iapply (first_run c (grid1.coords t) _ _ _ _ _ _ _ _ _ _ _ _ _ _ (b0 V t) (b1 V t) (b2 V t) (b3 V t) (b4 V t) (b5 V t) X7 A B C Q hc)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    isplitl [HC]; · iexact HC
    iintro ⟨H0, H1, H2, H3, H4, H5, H6, HA, HB, HC⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold outAt; rw [← k0, ← k1, ← k2]; iexact H6
    iexists (acc0 V (t.val + 1)), (acc1 V (t.val + 1)), (acc2 V (t.val + 1))
    isplitr; · ipureintro; exact fun _ => ⟨rfl, rfl, rfl⟩
    isplitl [HA]; · rw [← k0]; iexact HA
    isplitl [HB]; · rw [← k1]; iexact HB
    rw [← k2]; iexact HC
  · unfold bodyAt1
    iapply (rest_run c (grid1.coords t) _ _ _ _ _ _ _ _ _ _ _ _ _ _ (b0 V t) (b1 V t) (b2 V t) (b3 V t) (b4 V t) (b5 V t) X7 A B C Q hc)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    isplitl [HC]; · iexact HC
    iintro ⟨H0, H1, H2, H3, H4, H5, H6, HA, HB, HC⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold outAt; rw [← k0, ← k1, ← k2]; iexact H6
    iexists (acc0 V (t.val + 1)), (acc1 V (t.val + 1)), (acc2 V (t.val + 1))
    isplitr; · ipureintro; exact fun _ => ⟨rfl, rfl, rfl⟩
    isplitl [HA]; · rw [← k0]; iexact HA
    isplitl [HB]; · rw [← k1]; iexact HB
    rw [← k2]; iexact HC

theorem body_obligation : BodyObligation (dat V O c) (defs₀ (F := F)) 𝒱₀ none Set.univ := fun t => by
  rw [bigSep_W1, bigSep_W1, defs₀_row]
  simp only [before0, before1, before2, before3, before4, before5]
  rw [show (dat V O c).Φ t.castSucc = Sums V c t.val from rfl, show (dat V O c).Φ t.succ = Sums V c (t.val + 1) from rfl,
    show (dat V O c).owesAt none t.succ = (dat V O c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (body_run V c t ((dat V O c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HΦ]; · iexact HΦ
  iintro ⟨H0, H1, H2, H3, H4, H5, H6, HΦ⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  by_cases hc : k1_cond2 (grid1.coords t) = 1#1
  · have hi : idle1 6 (grid1.coords t) = false := by show (!(k1_cond2 (grid1.coords t) == 1#1)) = false; rw [hc]; rfl
    rw [hi, if_pos hc]
    iexact H6
  · have hi : idle1 6 (grid1.coords t) = true := by
      show (!(k1_cond2 (grid1.coords t) == 1#1)) = true
      rw [beq_eq_false_iff_ne.mpr hc]; rfl
    have hf : (win1 6).flush t = false := Bool.eq_false_iff.mpr fun h => hc ((cond2_iff t).mpr ((flush1_6 t).mp h))
    rw [hi, if_neg hc, hf]
    iexists d6
    iexact H6

end Obligation

end Cert.Proof.K

end
-- ==== Proof.Enter.lean ====
/-
  The TensorCore call's record: entered from the device's unscoped buffers held at any valuation with nothing owed, left with
  them as the region leaves them; and the call's statement of @main run by it.
-/
module

public import proofs.«01_k».proof.Proof.Region

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic
open Idealize.ShloMosaic.Pipeline (Dat Cfg Window BodyObligation ucRefs afterRegion)

variable {F : FTy → Type} [FloatOps F]

local notation "𝕄" => MT nD τ sig (HIx 1) (Elt F) ℕ UU ℕ

/-- The call prefetches no table. -/
abbrev adm : (p : Fin 1) → (pcfgs (F := F) p).Adm := fun p => (cfgs p).toPCfg_adm

/-- The pipeline's ghost state on a device, as the launch deals it. -/
abbrev G (d : Dev nD) : sProp 𝕄 :=
  iprop(Pipeline.cellsGhost (Pipeline.pin (pcfgs (F := F)) adm) EP 0 d ∗ Pipeline.toksInit (Pipeline.pin (pcfgs (F := F)) adm) EP 0 d)

section Record

variable (W : Dev nD → Valuation τ sig (Elt F))

/-- The proof data, nothing owed. -/
abbrev dat₀ (d : Dev nD) : Dat τ (Elt F) (HIx 1) ℕ UU ℕ cfg1 d := dat (W d) (fun _ => 0) d

def pdats : (p : Fin 1) → (c : Dev nD) → Dat τ (Elt F) (HIx 1) ℕ UU ℕ (Pipeline.pin (pcfgs (F := F)) adm p) c :=
  fun | 0 => dat₀ W

theorem level_cut : Pipeline.LevelCut (τ := τ) (nD := nD) (pcfgs (F := F)) adm (none : HIx 1) (K (F := F)).L (K (F := F)).lev 0 (fun _ => 0) (fun _ => 0) where
  hι _ _ _ := Finset.mem_univ _
  hιb _ _ _ := le_rfl
  hD _ _ _ h := absurd h (lt_irrefl _)

theorem sums_in (V : Valuation τ sig (Elt F)) (c : Dev nD) :
    iprop(Pipeline.scopedRest spec1 c ∗ emp) ⊢ (Sums V c 0 : sProp 𝕄) := by
  rw [scopedRest1_eq]
  unfold Sums
  iintro ⟨⟨⟨%A, HA⟩, ⟨%B, HB⟩, ⟨%C, HC⟩⟩, -⟩
  iexists A, B, C
  isplitr; · ipureintro; exact fun h => absurd rfl h
  isplitl [HA]; · iapply (Entails.of_eq (owns_whole (c : Thread nD τ) cc1_scratch0 fullShare A).symm); iexact HA
  isplitl [HB]; · iapply (Entails.of_eq (owns_whole (c : Thread nD τ) cc1_scratch1 fullShare B).symm); iexact HB
  iapply (Entails.of_eq (owns_whole (c : Thread nD τ) cc1_scratch2 fullShare C).symm); iexact HC

theorem sums_out (V : Valuation τ sig (Elt F)) (c : Dev nD) (n : ℕ) :
    (Sums V c n : sProp 𝕄) ⊢ iprop(Pipeline.scopedRest spec1 c ∗ emp) := by
  rw [scopedRest1_eq]
  unfold Sums
  iintro ⟨%A, %B, %C, -, HA, HB, HC⟩
  ihave HA := (Entails.of_eq (owns_whole (c : Thread nD τ) cc1_scratch0 fullShare A)) $$ HA
  ihave HB := (Entails.of_eq (owns_whole (c : Thread nD τ) cc1_scratch1 fullShare B)) $$ HB
  ihave HC := (Entails.of_eq (owns_whole (c : Thread nD τ) cc1_scratch2 fullShare C)) $$ HC
  isplitl; swap; · iempintro
  isplitl [HA]; · iexists _; iexact HA
  isplitl [HB]; · iexists _; iexact HB
  iexists _; iexact HC

/-- Nothing rides beside the region. -/
def noX : Dev nD → sProp 𝕄 := fun _ => iprop(emp)

theorem r_body (c : Dev nD) : Pipeline.BodyObligationLoose (pdats W 0 c) (defs₀ (F := F)) 𝒱₀ (none : HIx 1) Set.univ :=
  (body_obligation (W c) (fun _ => 0) c).loose
theorem r_owed (c : Dev nD) (t) : (pdats W 0 c).owed t = 0 := rfl
theorem r_rec (c : Dev nD) : (pdats W 0 c).recorded 0 = Set.univ := rfl
theorem r_share (c : Dev nD) (w) : (pdats W 0 c).share w = fullShare := (pdats W 0 c).share_full (fun _ => rfl) w
theorem r_in (c : Dev nD) : iprop(Pipeline.scopedRest (Pipeline.pin (pcfgs (F := F)) adm 0).spec c ∗ noX c) ⊢ (pdats W 0 c).Φ 0 := sums_in (W c) c
theorem r_out (c : Dev nD) : (pdats W 0 c).Φ (Fin.last (Pipeline.pin (pcfgs (F := F)) adm 0).N)
    ⊢ iprop(Pipeline.scopedRest (Pipeline.pin (pcfgs (F := F)) adm 0).spec c ∗ noX c) := sums_out (W c) c _
theorem r_arr (c : Dev nD) (w) : (pdats W 0 c).arrAt w 0 = W c (Proc.devRef .tc (Pipeline.arrRef (Pipeline.pin (pcfgs (F := F)) adm 0).spec w)) := rfl
theorem r_sub : Pipeline.arrRefs (τ := τ) ((pcfgs (F := F)) 0).spec ⊆ ucRefs τ sig := Pipeline.arrRefs_sub_ucRefs spec1 winFacts1.arr_unscoped

def region : Pipeline.RegionSeg (pcfgs (F := F)) adm (pdats W) (none : HIx 1) defs₀ 𝒱₀ (K (F := F)).L (K (F := F)).lev 0 :=
  Pipeline.RegionSeg.ofHeldIn (pcfgs (F := F)) adm (pdats W) (none : HIx 1) defs₀ 𝒱₀ (K (F := F)).L (K (F := F)).lev 0 (fun _ => 0)
    (ucRefs τ sig) noX noX launch1.toP rfl (r_body W) (r_owed W) (r_rec W) (r_share W) (r_in W) (r_out W) (fun _ => 0) level_cut noX W (r_arr W)

theorem region_pre (d : Dev nD) :
    iprop(held (d.tc : Thread nD τ) (ucRefs τ sig) (W d) ∗ ((∃ Wd, owes (d.tc : Thread nD τ) 0 Wd) ∗ noX d ∗ noX d)) ⊢ (region W).pre d := by
  unfold region
  exact Pipeline.RegionSeg.ofHeldIn_pre (pcs := pcfgs (F := F)) (a := adm) (pdats := pdats W) (p := 0) (D := fun _ => 0) (S := ucRefs τ sig) r_sub
    (X := noX) (Y := noX) (R := noX) (W := W) d

theorem region_post (d : Dev nD) :
    (region W).post d ⊢ iprop(held (d.tc : Thread nD τ) (ucRefs τ sig) (afterRegion (dat₀ W d) (W d)) ∗ ((∃ Wd, owes (d.tc : Thread nD τ) 0 Wd) ∗ noX d ∗ noX d)) := by
  unfold region
  exact Pipeline.RegionSeg.ofHeldIn_post (pcs := pcfgs (F := F)) (a := adm) (pdats := pdats W) (p := 0) (D := fun _ => 0) (S := ucRefs τ sig) r_sub
    (X := noX) (Y := noX) (R := noX) (W := W) d

/-- The call's statement is the pipeline's, read in the program's signature. -/
theorem call_lift : (Prog.lift (.customCall (SparseCore.inner (Pipeline.entry 0)) ()) : Prog (TpuEff nD τ sig (Elt F) (SparseCore.Sig (ΛP (F := F)) 1) .tc) PUnit)
    = SparseCore.liftProg (Λ := ΛP (F := F)) (Q := 1) (.op (.customCall (Pipeline.entry 0) ()) .ret) := rfl

theorem call_frame (d : Dev nD) (Q : PUnit → sProp 𝕄) :
    iprop((iprop(boundary (T d) ∗ held (T d) (ucRefs τ sig) (afterRegion (dat₀ W d) (W d)) ∗ ∃ Wd, owes (T d) 0 Wd) -∗ Q ⟨⟩)
        ∗ boundary (T d) ∗ held (T d) (ucRefs τ sig) (W d) ∗ (∃ Wd, owes (T d) 0 Wd) ∗ levAts (K (F := F)).L (K (F := F)).lev ∗ G d)
      ⊢ iprop((iprop(boundary (d.tc : Thread nD τ) ∗ (region W).post d)
          -∗ wp frame (wpE (Pipeline.defs (pcfgs (F := F)) defs₀) 𝒱₀.lift (d.tc : Thread nD τ) none) Set.univ (.ret ⟨⟩) Q)
        ∗ boundary (d.tc : Thread nD τ) ∗ (region W).pre d ∗ levAts (K (F := F)).L (K (F := F)).lev ∗ G d) := by
  iintro ⟨Hk, Hb, Hh, HO, Hl, HG1, HG2⟩
  isplitl [Hk]
  · iintro ⟨Hb, Hp⟩
    rw [wp_ret]; imodintro
    ihave Hp := (region_post W d) $$ Hp
    icases Hp with ⟨Hh, HO, -⟩
    iapply Hk
    isplitl [Hb]; · iexact Hb
    isplitl [Hh]; · iexact Hh
    iexact HO
  isplitl [Hb]; · iexact Hb
  isplitl [Hh HO]
  · iapply (region_pre W d)
    isplitl [Hh]; · iexact Hh
    isplitl [HO]; · iexact HO
    unfold noX
    isplitr; · iempintro
    iempintro
  isplitl [Hl]; · iexact Hl
  isplitl [HG1]; · iexact HG1
  iexact HG2

/-- The call: from the unscoped buffers held at `W d`, nothing owed and the pipeline's ghost state, to them as the region leaves them. -/
theorem call_run (d : Dev nD) (Q : PUnit → sProp 𝕄) :
    iprop((iprop(boundary (T d) ∗ held (T d) (ucRefs τ sig) (afterRegion (dat₀ W d) (W d)) ∗ ∃ Wd, owes (T d) 0 Wd) -∗ Q ⟨⟩)
        ∗ boundary (T d) ∗ held (T d) (ucRefs τ sig) (W d) ∗ (∃ Wd, owes (T d) 0 Wd) ∗ levAts (K (F := F)).L (K (F := F)).lev ∗ G d)
      ⊢ wp frame (wpE ((K (F := F)).defs (D (F := F))) 𝒱 (T d) none) Set.univ (Prog.lift (.customCall (SparseCore.inner (Pipeline.entry 0)) ())) Q := by
  rw [call_lift]
  refine BI.Entails.trans ?_ ((K (F := F)).wp_liftProg (D (F := F)) 𝒱 (T d) Set.univ none _ Q)
  have key : iprop((iprop(boundary (d.tc : Thread nD τ) ∗ (region W).post d)
          -∗ wp frame (wpE (Pipeline.defs (pcfgs (F := F)) defs₀) 𝒱₀.lift (d.tc : Thread nD τ) none) Set.univ (.ret ⟨⟩) Q)
        ∗ boundary (d.tc : Thread nD τ) ∗ (region W).pre d ∗ levAts (K (F := F)).L (K (F := F)).lev ∗ G d) ⊢ _ :=
    Pipeline.RegionSeg.wp (pcfgs (F := F)) adm (pdats W) (none : HIx 1) cellOf_inj EP defs₀ 𝒱₀ (K (F := F)).L (K (F := F)).lev
    (region W) d none (fun u h => absurd h (Option.not_mem_none u)) .ret Q
  exact (call_frame W d Q).trans key

end Record

end Cert.Proof.K

end
-- ==== Proof.Launch.lean ====
/-
  The program's run. The SparseCore call's operands, dealt to the two SparseCores and their sixteen tiles each (read shares of the
  write indices, rows of the mask); @main on the TensorCore: that call, four reshapes, the TensorCore call; and what every final
  memory then holds.
-/
module

public import proofs.«01_k».proof.Proof.Enter

@[expose] public section

noncomputable section

namespace Cert.Proof.K

open Cert.KernelIdeal Cert.KernelIdeal.Gen
open Cert.Proof.Table Cert.Proof.Lanes

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Transfers
open Idealize.ShloMosaic.Tactic
open Idealize.ShloMosaic.Pipeline (ucRefs afterRegion)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The call's operands, dealt -/

omit [FloatOps F] in
theorem nCore_zero : (K (F := F)).nCore 0 = 2 := rfl
omit [FloatOps F] in
theorem nSub_zero : (K (F := F)).nSub 0 = 16 := rfl

/-- The words of the mask that the tiles of SparseCore `c` write. -/
def coreSet (c : Fin 2) : Finset S8192.Idx := Finset.univ.biUnion fun s : Fin 16 => rowSet (coordsV c s)

abbrev tok2 (c : Fin 2) : PosShare TreeShare := shareTok fullShare 2 c
abbrev tok16 (c : Fin 2) (i : Fin 16) : PosShare TreeShare := shareTok (tok2 c) 16 i

/-- What SparseCore `c` is handed, and what it hands back; tile `i`'s part of each. -/
abbrev stP (d : Dev nD) (c : Fin 2) : sProp 𝕄 := iprop(iPts m d (tok2 c) ∗ kPts d (coreSet c) (m (kLoc d)))
abbrev dnP (d : Dev nD) (c : Fin 2) : sProp 𝕄 := iprop(iPts m d (tok2 c) ∗ kPts d (coreSet c) (M (F := F) m d))
abbrev goP (d : Dev nD) (c : Fin 2) (i : Fin 16) : sProp 𝕄 := iprop(iPts m d (tok16 c i) ∗ kPts d (rowSet (coordsV c i)) (m (kLoc d)))
abbrev tdP (d : Dev nD) (c : Fin 2) (i : Fin 16) : sProp 𝕄 := iprop(iPts m d (tok16 c i) ∗ kPts d (rowSet (coordsV c i)) (M (F := F) m d))

def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (stP m d (Fin.cast nCore_zero c)))
  dn q d c := match q with
    | 0 => (inferInstance : BI.Storable (upEmb : UEmb _ 𝕄) (dnP m d (Fin.cast nCore_zero c)))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

/-! ## The tiles' obligation -/

theorem defs₀_vector (c : Fin τ.nSC) (s : Fin τ.nSub) :
    defs₀ (F := F) (.scVector c s) 0 () = SparseCore.onTile hcore0 hsub0 (fun c s => tileProg (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (tok16 (Fin.cast nCore_zero c) (Fin.cast nSub_zero i)) O W hO).trans
    (wp_mono frame _ _ fun _ => obl_post)

/-! ## The rows -/

omit [FloatOps F] in
theorem rows_disjoint (c : Fin 2) : ∀ i ∈ (Finset.univ : Finset (Fin 16)), ∀ j ∈ (Finset.univ : Finset (Fin 16)), i ≠ j →
    Disjoint (rowSet (coordsV c i)) (rowSet (coordsV c j)) := by
  intro i _ j _ h
  refine Finset.disjoint_left.mpr fun w h1 h2 => h (Fin.ext ?_)
  have e1 := (mem_rowSet _ w).mp h1
  have e2 := (mem_rowSet _ w).mp h2
  have k1 : rowOff (coordsV c i) = 512 * i.val + 256 * c.val := rfl
  have k2 : rowOff (coordsV c j) = 512 * j.val + 256 * c.val := rfl
  omega
omit [FloatOps F] in
theorem mem_coreSet (c : Fin 2) (w : S8192.Idx) : w ∈ coreSet c ↔ (w 0).val / 256 % 2 = c.val := by
  have hw : (w 0).val < 8192 := (w 0).isLt
  unfold coreSet
  constructor
  · intro h
    obtain ⟨s, -, hs⟩ := Finset.mem_biUnion.mp h
    have e1 := (mem_rowSet _ w).mp hs
    have k1 : rowOff (coordsV c s) = 512 * s.val + 256 * c.val := rfl
    omega
  · intro h
    have hs : (w 0).val / 512 < 16 := by omega
    refine Finset.mem_biUnion.mpr ⟨⟨(w 0).val / 512, hs⟩, Finset.mem_univ _, (mem_rowSet _ w).mpr ?_⟩
    show 512 * ((w 0).val / 512) + 256 * c.val ≤ (w 0).val ∧ (w 0).val < 512 * ((w 0).val / 512) + 256 * c.val + 256
    omega
omit [FloatOps F] in
theorem cores_disjoint : ∀ i ∈ (Finset.univ : Finset (Fin 2)), ∀ j ∈ (Finset.univ : Finset (Fin 2)), i ≠ j → Disjoint (coreSet i) (coreSet j) := by
  intro i _ j _ h
  exact Finset.disjoint_left.mpr fun w h1 h2 => h (Fin.ext (((mem_coreSet i w).mp h1).symm.trans ((mem_coreSet j w).mp h2)))
omit [FloatOps F] in
theorem cores_cover : (Finset.univ : Finset (Fin 2)).biUnion coreSet = Finset.univ := by
  refine Finset.eq_univ_iff_forall.mpr fun w => Finset.mem_biUnion.mpr ⟨⟨(w 0).val / 256 % 2, by omega⟩, Finset.mem_univ _, (mem_coreSet _ w).mpr rfl⟩

omit [FloatOps F] in
theorem kPts_rows (d : Dev nD) (c : Fin 2) (f : Buf (Elt F) (kLoc d)) :
    (kPts d (coreSet c) f : sProp 𝕄) = bigSep Finset.univ fun i : Fin 16 => kPts d (rowSet (coordsV c i)) f :=
  pointsTo_biUnion Finset.univ (ℓ := kLoc d) (fun i : Fin 16 => rowSet (coordsV c i)) (rows_disjoint c)
omit [FloatOps F] in
theorem kPts_cores (d : Dev nD) (f : Buf (Elt F) (kLoc d)) :
    (kPts d Finset.univ f : sProp 𝕄) = bigSep Finset.univ fun c : Fin 2 => kPts d (coreSet c) f :=
  (congrArg (fun s => (kPts d s f : sProp 𝕄)) cores_cover.symm).trans (pointsTo_biUnion Finset.univ (ℓ := kLoc d) coreSet cores_disjoint)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands to its tiles, and back. -/
theorem core_split (d : Dev nD) (c : Fin 2) :
    stP m d c ⊢ iprop((bigSep Finset.univ fun i : Fin 16 => goP m d c i) ∗ ((bigSep Finset.univ fun i : Fin 16 => tdP m d c i) -∗ dnP m d c)) := by
  rw [bigSep_sep', bigSep_sep']
  unfold stP dnP
  rw [kPts_rows, kPts_rows]
  iintro ⟨Hi, Hk⟩
  ihave Hi := (pointsTo_toks_split (ℓ := iLoc d) (S := Finset.univ) (f := I m d) (tok2 c) 16) $$ Hi
  icases Hi with ⟨Hd, Ht⟩
  isplitl [Ht Hk]
  · isplitl [Ht]; · iexact Ht
    iexact Hk
  iintro ⟨Ht, Hk⟩
  isplitl [Hd Ht]
  · iapply (pointsTo_toks_join (ℓ := iLoc d) (S := Finset.univ) (f := I m d) (tok2 c) 16)
    isplitl [Hd]; · iexact Hd
    iexact Ht
  iexact Hk

theorem vecSplit : (K (F := F)).VecSplit' (P m) 0 := by
  intro d c
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i)) -∗ dnP m d (Fin.cast nCore_zero c)))
  rw [bigSep_tasks (F := F) (fun i => goP m d (Fin.cast nCore_zero c) i), bigSep_tasks (F := F) (fun i => tdP m d (Fin.cast nCore_zero c) i)]
  iintro H; imodintro
  iapply (core_split m d (Fin.cast nCore_zero c)); iexact H

/-- The call's operands to the two SparseCores, and back. -/
theorem st0_intro (d : Dev nD) :
    iprop(iPts m d fullShare ∗ kPts d Finset.univ (m (kLoc d)))
      ⊢ iprop(iPts m d (shareDrop fullShare 2) ∗ bigSep Finset.univ fun c : Fin ((K (F := F)).nCore 0) => (P m).st 0 d c) := by
  rw [show (bigSep Finset.univ fun c : Fin ((K (F := F)).nCore 0) => (P m).st 0 d c) = bigSep Finset.univ (fun c : Fin 2 => stP m d c)
    from bigSep_cores (F := F) (fun c => stP m d c), bigSep_sep', kPts_cores]
  iintro ⟨Hi, Hk⟩
  ihave Hi := (pointsTo_toks_split (ℓ := iLoc d) (S := Finset.univ) (f := I m d) fullShare 2) $$ Hi
  icases Hi with ⟨Hd, Ht⟩
  isplitl [Hd]; · iexact Hd
  isplitl [Ht]; · iexact Ht
  iexact Hk
theorem dn0_elim (d : Dev nD) :
    iprop(iPts m d (shareDrop fullShare 2) ∗ bigSep Finset.univ fun c : Fin ((K (F := F)).nCore 0) => (P m).dn 0 d c)
      ⊢ iprop(iPts m d fullShare ∗ kPts d Finset.univ (M (F := F) m d)) := by
  rw [show (bigSep Finset.univ fun c : Fin ((K (F := F)).nCore 0) => (P m).dn 0 d c) = bigSep Finset.univ (fun c : Fin 2 => dnP m d c)
    from bigSep_cores (F := F) (fun c => dnP m d c), bigSep_sep', kPts_cores]
  iintro ⟨Hd, Ht, Hk⟩
  isplitl [Hd Ht]
  · iapply (pointsTo_toks_join (ℓ := iLoc d) (S := Finset.univ) (f := I m d) fullShare 2)
    isplitl [Hd]; · iexact Hd
    iexact Ht
  iexact Hk

/-! ## The launch's ghost state -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

omit [FloatOps F] in
theorem bigSep_none {A : Type} (s : Finset A) : (bigSep s fun _ => iprop(emp)) = (iprop(emp) : sProp 𝕄) := bigSep_emp_const s

theorem ghost_deal :
    (BI.own (EP (initOf (Pipeline.cells (Pipeline.pin (pcfgs (F := F)) adm) cellOf_inj) (Pipeline.launchToks (Pipeline.pin (pcfgs (F := F)) adm) cellOf_inj))) : sProp 𝕄)
      ⊢ iprop(|==> bigSep Finset.univ fun d : Dev nD => G (F := F) d) := by
  iintro H
  imod (Pipeline.fund_ghost (Pipeline.pin (pcfgs (F := F)) adm) EP cellOf_inj) $$ H with ⟨Hg, Ht⟩
  imodintro
  rw [bigSep_sep']
  isplitl [Hg]
  · iapply (Entails.of_eq (bigSep_congr (s := Finset.univ) fun (d : Dev nD) _ =>
      bigSep_univ_of_subsingleton (Φ := fun p => (Pipeline.cellsGhost (Pipeline.pin (pcfgs (F := F)) adm) EP p d : sProp 𝕄)) (0 : Fin 1)))
    iexact Hg
  · iapply (Entails.of_eq (bigSep_congr (s := Finset.univ) fun (d : Dev nD) _ =>
      bigSep_univ_of_subsingleton (Φ := fun p => (Pipeline.toksInit (Pipeline.pin (pcfgs (F := F)) adm) EP p d : sProp 𝕄)) (0 : Fin 1)))
    iexact Ht

theorem x_deal : (iprop(emp) : sProp 𝕄) ⊢ bigSep Finset.univ fun thr : Thread nD τ => bigSep Finset.univ fun q : Fin 1 => (P m).x q thr := by
  show (iprop(emp) : sProp 𝕄) ⊢ bigSep Finset.univ fun _ : Thread nD τ => bigSep Finset.univ fun _ : Fin 1 => iprop(emp)
  simp only [bigSep_none]; exact .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (ghost_deal (F := F)) $$ HP with HG
  imodintro
  isplitl [HH]; · iexact HH
  isplitl [HG]; · iexact HG
  iapply (x_deal m); iempintro

/-! ## @main on the TensorCore -/

abbrev opMask : HloOp τ sig (Elt F) := StableHlo.reshape main_v0 main_v1 (rfl : (.f32 : EltTy) = .f32) shapeCasts_S8192_S4x1x2048
abbrev opQ0 : HloOp τ sig (Elt F) := StableHlo.reshape main_arg0 main_v2 (rfl : (.f32 : EltTy) = .f32) shapeCasts_S4x1x128_S4x128
abbrev opQ1 : HloOp τ sig (Elt F) := StableHlo.reshape main_arg1 main_v3 (rfl : (.f32 : EltTy) = .f32) shapeCasts_S4x1x64_S4x64
abbrev opWG : HloOp τ sig (Elt F) := StableHlo.reshape main_arg3 main_v4 (rfl : (.f32 : EltTy) = .f32) shapeCasts_S4x8192x1_S4x8192

theorem opMask_sub : (opMask (F := F)).bufs ⊆ ucRefs τ sig :=
  show ({Proc.devRef .tc main_v0, Proc.devRef .tc main_v1} : Finset (DevRef τ sig)) ⊆ ucRefs τ sig by decide
theorem opQ0_sub : (opQ0 (F := F)).bufs ⊆ ucRefs τ sig :=
  show ({Proc.devRef .tc main_arg0, Proc.devRef .tc main_v2} : Finset (DevRef τ sig)) ⊆ ucRefs τ sig by decide
theorem opQ1_sub : (opQ1 (F := F)).bufs ⊆ ucRefs τ sig :=
  show ({Proc.devRef .tc main_arg1, Proc.devRef .tc main_v3} : Finset (DevRef τ sig)) ⊆ ucRefs τ sig by decide
theorem opWG_sub : (opWG (F := F)).bufs ⊆ ucRefs τ sig :=
  show ({Proc.devRef .tc main_arg3, Proc.devRef .tc main_v4} : Finset (DevRef τ sig)) ⊆ ucRefs τ sig by decide

abbrev i' : DevRef τ sig := Proc.devRef .tc main_arg2
abbrev k' : DevRef τ sig := Proc.devRef .tc main_v0

/-- The buffers at launch; after the SparseCore call; after the reshapes; at the end. -/
def V0 (d : Dev nD) : Valuation τ sig (Elt F) := fun b => m (d, b)
def V1 (d : Dev nD) : Valuation τ sig (Elt F) := Function.update (V0 m d) k' (M (F := F) m d)
def V5 (d : Dev nD) : Valuation τ sig (Elt F) := opWG.result (opQ1.result (opQ0.result (opMask.result (V1 m d))))
def Vend (d : Dev nD) : Valuation τ sig (Elt F) := afterRegion (dat₀ (V5 m) d) (V5 m d)

omit [FloatOps F] in
theorem held_ik (d : Dev nD) (W : Valuation τ sig (Elt F)) :
    (held (T d) (ucRefs τ sig) W : sProp 𝕄)
      = iprop(((iLoc d ↦{fullShare} W i') ∗ kLoc d ↦{fullShare} W k') ∗ held (T d) (ucRefs τ sig \ {i', k'}) W) := by
  rw [held_sub_split (T d) (T := {i', k'}) (S := ucRefs τ sig) (by decide) W]
  unfold held
  rw [SparseCore.bigSep_insert' (by decide), bigSep_singleton]

theorem V1_rest (d : Dev nD) : (held (T d) (ucRefs τ sig \ {i', k'}) (V1 m d) : sProp 𝕄) = held (T d) (ucRefs τ sig \ {i', k'}) (V0 m d) :=
  held_congr (T d) fun b hb => Function.update_of_ne (fun e => (Finset.mem_sdiff.mp hb).2 (by rw [e]; simp)) _ _

omit [FloatOps F] in
/-- Between the calls the TensorCore owes nothing, whatever waits it has made. -/
theorem tcSt_open (d : Dev nD) :
    (K (F := F)).tcSt EH d 1 ⊢ (iprop((∃ W, owes (T d) 0 W) ∗ ((∃ W, owes (T d) 0 W) -∗ (K (F := F)).tcSt EH d 1)) : sProp 𝕄) := by
  unfold SparseCore.Cfg.tcSt
  rw [(K (F := F)).Otc_end d (le_refl 1)]
  iintro ⟨⟨%W, -, HO⟩, Hr⟩
  isplitl [HO]; · iexists W; iexact HO
  iintro ⟨%W', HO⟩
  isplitl [HO]
  · iexists W'
    isplitr
    · ipureintro
      intro p _
      rcases p with ⟨s, _ | q⟩
      · exact Nat.zero_le _
      · have := (K (F := F)).lev_some_le (T d, s) q
        have hq : q.val = 0 := by omega
        exact this.trans (by rw [hq]; decide)
    · iexact HO
  iexact Hr

abbrev FIN (d : Dev nD) : sProp 𝕄 := held (T d) (ucRefs τ sig) (Vend m d)

theorem tc_bufs (d : Dev nD) : (unscopedBufs d (fun b => m ((SparseCore.T d).loc b)) : sProp 𝕄) = held (T d) (ucRefs τ sig) (V0 m d) :=
  Pipeline.unscopedBufs_held d (V0 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [tc_bufs, held_ik]
  simp only [main, wp_bind, wp_pure]
  iintro ⟨#Hctx, Hst, ⟨Hb, ⟨⟨Hi, Hk⟩, Hrest⟩, Hts, -⟩, HG⟩
  ihave Hop := (st0_intro m d) $$ [Hi Hk]
  · isplitl [Hi]; · iexact Hi
    iexact Hk
  icases Hop with ⟨Hd, Hop⟩
  iapply ((K (F := F)).wp_run (D (F := F)) 𝒱 (EH := EH) (P := P m) κ d 0)
  isplitr; · iexact Hctx
  isplitl [Hst]; · iexact Hst
  isplitl [Hop]; · iexact Hop
  iintro ⟨Hst, Hdn⟩
  ihave Hop := (dn0_elim m d) $$ [Hd Hdn]
  · isplitl [Hd]; · iexact Hd
    iexact Hdn
  icases Hop with ⟨Hi, Hk⟩
  ihave Hh := (Entails.of_eq (held_ik (F := F) d (V1 m d)).symm) $$ [Hi Hk Hrest]
  · isplitl [Hi Hk]
    · isplitl [Hi]
      · rw [show V1 m d i' = I m d from Function.update_of_ne (show i' ≠ k' by decide) _ _]; iexact Hi
      · rw [show V1 m d k' = M (F := F) m d from Function.update_self _ _ _]; iexact Hk
    · rw [V1_rest]; iexact Hrest
  iapply (wp_hlo_within 𝒱 (T d) none Set.univ (op := opMask) (S := ucRefs τ sig) (opMask_sub) (V := V1 m d)) $$ [Hb Hh]
  · isplitl [Hb]; · iexact Hb
    iexact Hh
  iintro ⟨Hb, Hh⟩
  rw [wp_ret]; imodintro
  iapply (wp_hlo_within 𝒱 (T d) none Set.univ (op := opQ0) (S := ucRefs τ sig) (opQ0_sub) (V := opMask.result (V1 m d))) $$ [Hb Hh]
  · isplitl [Hb]; · iexact Hb
    iexact Hh
  iintro ⟨Hb, Hh⟩
  rw [wp_ret]; imodintro
  iapply (wp_hlo_within 𝒱 (T d) none Set.univ (op := opQ1) (S := ucRefs τ sig) (opQ1_sub) (V := opQ0.result (opMask.result (V1 m d)))) $$ [Hb Hh]
  · isplitl [Hb]; · iexact Hb
    iexact Hh
  iintro ⟨Hb, Hh⟩
  rw [wp_ret]; imodintro
  iapply (wp_hlo_within 𝒱 (T d) none Set.univ (op := opWG) (S := ucRefs τ sig) (opWG_sub)
    (V := opQ1.result (opQ0.result (opMask.result (V1 m d))))) $$ [Hb Hh]
  · isplitl [Hb]; · iexact Hb
    iexact Hh
  iintro ⟨Hb, Hh⟩
  rw [wp_ret]; imodintro
  ihave Hst := (show (K (F := F)).tcSt EH d ((0 : Fin 1).val + 1) ⊢ _ from tcSt_open (F := F) d) $$ Hst
  icases Hst with ⟨HO, Hst⟩
  iapply (call_run (V5 m) d)
  isplitl [Hst Hts]
  · iintro ⟨Hb, Hh, HO⟩
    imodintro
    isplitl [Hst HO]; · iapply Hst; iexact HO
    isplitl [Hh]; · iexact Hh
    isplitl [Hb]; · iexact Hb
    iexact Hts
  isplitl [Hb]; · iexact Hb
  isplitl [Hh]; · iexact Hh
  isplitl [HO]; · iexact HO
  isplitr [HG]
  · iapply (SparseCore.Cfg.ctx_levAts (K := K (F := F)) κ); iexact Hctx
  iexact HG

def fq (d : Dev nD) (s' : Phys nD τ sig (Elt F)) : Prop := ∀ b ∈ ucRefs τ sig, s'.mem.mem (d, b) = Vend m d b

theorem hfin (d : Dev nD) (s' : Phys nD τ sig (Elt F)) : iprop(FIN m d ∗ SI s') ⊢ (⌜fq m d s'⌝ : sProp 𝕄) := by
  unfold FIN held
  iintro ⟨Hx, HSI⟩
  ihave H := (pointsTo_read_all (ucRefs τ sig) (fun b => ((d, b) : Loc nD τ sig)) (Vend m d) s') $$ [Hx HSI]
  · isplitl [Hx]; · iexact Hx
    iexact HSI
  icases H with ⟨%hx, -⟩
  ipureintro; exact hx

/-- What every final memory holds: each unscoped buffer as @main leaves it, every semaphore at zero. -/
def QC : PUnit × MemSt nD τ sig (Elt F) → Prop := fun r => (∀ d : Dev nD, ∀ b ∈ ucRefs τ sig, r.2.mem (d, b) = Vend m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.K

end
-- ==== Proof.Final.lean ====
/-
  What the precondition says of the write indices, what the buffers hold at the end of @main (the arguments as at launch, the
  result as the TensorCore call's last point writes it), and the two frames of the kernel.
-/
module

public import proofs.«01_k».proof.Defs
public import proofs.«01_k».proof.Proof.Launch
public import proofs.«01_k».proof.Proof.Gen.Kernel
public import proofs.«01_k».proof.Proof.Gen.Pre_in_range
public import Idealize.ShloMosaic.Lib.ReduceAll
public import Idealize.ShloMosaic.Lib.Pipeline.ValueKit

@[expose] public section

noncomputable section

namespace Cert.Proof.K

open Cert.KernelIdeal Cert.KernelIdeal.Gen
open Cert.Proof.Table Cert.Proof.Lanes

open Idealize.ShloMosaic Idealize.ShloMosaic.TcCoe
open Idealize.ShloMosaic.SparseCore.Cfg (HIx)
open Idealize.SL Idealize.SL.Sem
open Idealize.ShloMosaic.StableHlo
open Idealize.ShloMosaic.Tactic
open Idealize.ShloMosaic.Pipeline (ucRefs afterRegion)

variable {F : FTy → Type} [FloatOps F]

/-! ## The precondition -/

instance : Subsingleton Cert.Pre_in_range.S_.Idx := ⟨fun a b => funext fun i => i.elim0⟩

/-- The precondition read: every write index lies in `1 … 65535`. -/
theorem range_of_pre (a0 : FVec F Cert.Pre_in_range.S4x1x128 .f32) (a1 : FVec F Cert.Pre_in_range.S4x1x64 .f32) (a2 : IVec Cert.Pre_in_range.S8192 32)
    (a3 : FVec F Cert.Pre_in_range.S4x8192x1 .f32) (a4 : FVec F Cert.Pre_in_range.S4x8192x128 .f32) (a5 : FVec F Cert.Pre_in_range.S4x8192x64 .f32)
    (h : Cert.Pre_in_range.fn (F := F) a0 a1 a2 a3 a4 a5 = fun _ => 1#1) (w : Cert.Pre_in_range.S8192.Idx) :
    1 ≤ (a2 w).toNat ∧ (a2 w).toNat < 65536 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 1#32) (IntOp.cmpi .slt v 65536#32) = 1#1 → 1 ≤ v.toNat ∧ v.toNat < 65536 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (Shape.Idx.first Cert.Pre_in_range.Facts.h_S_)
  exact key _ (Host.reduce_andi_all _ _ _ _ _ e w)

theorem range_kernel (m : (ℓ : Loc nD τ sig) → Buf (Elt Bits) ℓ) (h : Cert.Pre_Kernel m) (d : Dev nD) (w : S8192.Idx) :
    1 ≤ (I m d w).toNat ∧ (I m d w).toNat < 65536 := range_of_pre (F := Bits) _ _ _ _ _ _ (h d) w
theorem range_ideal (m : (ℓ : Loc nD τ sig) → Buf (Elt Ideal) ℓ) (h : Cert.Pre_KernelIdeal m) (d : Dev nD) (w : S8192.Idx) :
    1 ≤ (I m d w).toNat ∧ (I m d w).toNat < 65536 := range_of_pre (F := Ideal) _ _ _ _ _ _ (h d) w

/-! ## The buffers at the end -/

variable (m : (ℓ : Loc nD τ sig) → Buf (Elt F) ℓ) (ρ : Dev nD → PrngReg)

/-- A buffer that neither call writes and no reshape names as its result ends as it began. -/
theorem Vend_kept (d : Dev nD) (r : Ref sig .tc) (h0 : Proc.devRef .tc r ≠ k') (h1 : Proc.devRef .tc r ∉ (opMask (F := F)).writes)
    (h2 : Proc.devRef .tc r ∉ (opQ0 (F := F)).writes) (h3 : Proc.devRef .tc r ∉ (opQ1 (F := F)).writes) (h4 : Proc.devRef .tc r ∉ (opWG (F := F)).writes)
    (h5 : ∀ w, Pipeline.arrRef spec1 w = r → (cfg1.win w).isOut = false) :
    Vend m d (Proc.devRef .tc r) = m (d, Proc.devRef .tc r) := by
  unfold Vend
  refine (Pipeline.afterRegion_keeps (dat₀ (V5 m) d) (V5 m d) winFacts1.arr_inj (fun _ => rfl) r h5).trans ?_
  unfold V5 V1
  rw [HloOp.result_of_not_mem _ _ h4, HloOp.result_of_not_mem _ _ h3, HloOp.result_of_not_mem _ _ h2, HloOp.result_of_not_mem _ _ h1,
    Function.update_of_ne h0]
  rfl

theorem kept0 (d : Dev nD) : Vend m d (Proc.devRef .tc main_arg0) = m (d, Proc.devRef .tc main_arg0) :=
  Vend_kept m d main_arg0 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)
theorem kept1 (d : Dev nD) : Vend m d (Proc.devRef .tc main_arg1) = m (d, Proc.devRef .tc main_arg1) :=
  Vend_kept m d main_arg1 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)
theorem kept2 (d : Dev nD) : Vend m d (Proc.devRef .tc main_arg2) = m (d, Proc.devRef .tc main_arg2) :=
  Vend_kept m d main_arg2 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)
theorem kept3 (d : Dev nD) : Vend m d (Proc.devRef .tc main_arg3) = m (d, Proc.devRef .tc main_arg3) :=
  Vend_kept m d main_arg3 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)
theorem kept4 (d : Dev nD) : Vend m d (Proc.devRef .tc main_arg4) = m (d, Proc.devRef .tc main_arg4) :=
  Vend_kept m d main_arg4 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)
theorem kept5 (d : Dev nD) : Vend m d (Proc.devRef .tc main_arg5) = m (d, Proc.devRef .tc main_arg5) :=
  Vend_kept m d main_arg5 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide) (by decide)

/-- The result: the block the last point writes, which is the whole array. -/
theorem arrAt_out (V : Valuation τ sig (Elt F)) (O : Dev nD → CellTallies nD τ sig (HIx 1)) (c : Dev nD) :
    (dat V O c).arrAt 6 cfg1.N = (outAt V t1_3 : FVec F S4x386 .f32) := by
  refine (dat V O c).arrAt_eq_of_after_last 6 t1_3 (by decide +kernel) _ fun j => ?_
  show outAt V t1_3 _ = outAt V t1_3 _
  refine congrArg (outAt V t1_3) (funext fun a => Fin.ext ?_)
  blk_simp

theorem Vend_out (d : Dev nD) : Vend m d (Proc.devRef .tc main_v5) = (outAt (V5 m d) t1_3 : FVec F S4x386 .f32) :=
  (Pipeline.afterRegion_arr (dat₀ (V5 m) d) (V5 m d) winFacts1.arr_inj 6).trans (arrAt_out _ _ d)

/-- What a run leaves of the named buffers: the arguments as at launch, every semaphore at zero, and the result. -/
def Read (r : (PUnit × MemSt nD τ sig (Elt F))) : Prop :=
  (∀ c : Dev nD, r.2.mem ((c.tc : Thread nD τ).loc main_v5) = (outAt (V5 m c) t1_3 : FVec F S4x386 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

theorem run_read [∀ e, Nonempty (Elt F e)] (hpre : PreOK m) :
    θ_run (Cert.KernelIdeal.defs (F := F)) (Cert.KernelIdeal.threads (F := F)) ⟨m, fun _ => 0, ρ⟩ (Read m) :=
  (θ_run Cert.KernelIdeal.defs _ _).mono (fun r h => ⟨fun c =>
    ⟨(h.1 c (Proc.devRef .tc main_v5) (by decide)).trans (Vend_out m c),
      (h.1 c (Proc.devRef .tc main_arg0) (by decide)).trans (kept0 m c), (h.1 c (Proc.devRef .tc main_arg1) (by decide)).trans (kept1 m c),
      (h.1 c (Proc.devRef .tc main_arg2) (by decide)).trans (kept2 m c), (h.1 c (Proc.devRef .tc main_arg3) (by decide)).trans (kept3 m c),
      (h.1 c (Proc.devRef .tc main_arg4) (by decide)).trans (kept4 m c), (h.1 c (Proc.devRef .tc main_arg5) (by decide)).trans (kept5 m c)⟩, h.2⟩)
    (run_main m ρ hpre)

/-! ## The frames -/

theorem frame_ideal : Cert.quiescent_KernelIdeal := fun m ρ hpre =>
  (θ_run Cert.KernelIdeal.defs _ _).mono (fun _ (h : Read (F := Ideal) m _) => ⟨fun c => (h.1 c).2, h.2⟩)
    (run_read (F := Ideal) m ρ fun d w => (range_ideal m hpre d w).2)

/-- The printed kernel's body table is the idealized kernel's: no operation was rewritten. The rows agree label by label. -/
theorem rows_eq : @Cert.Kernel.defs₀ Bits _ _ = @Cert.KernelIdeal.defs₀ Bits _ _ := by
  funext p ℓ a
  match p, ℓ, a with
  | .tc, 0, _ => rfl
  | .tc, 1, (_, _) => rfl
  | .scVector _ _, 0, _ => rfl
  | .scVector _ _, 1, _ => rfl
  | .scScalar _, 0, _ => rfl
  | .scScalar _, 1, _ => rfl

theorem defs_eq : @Cert.Kernel.defs Bits _ _ = @Cert.KernelIdeal.defs Bits _ _ :=
  congrArg (fun D => Cert.KernelIdeal.sc.defs (Pipeline.defs Cert.KernelIdeal.pcfgs D)) rows_eq

theorem frame_kernel : Cert.quiescent_Kernel := by
  intro m ρ hpre
  have h := (θ_run (Cert.KernelIdeal.defs (F := Bits)) Cert.KernelIdeal.threads ⟨m, fun _ => 0, ρ⟩).mono
    (Q' := fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0)
    (fun _ (h : Read (F := Bits) m _) => ⟨fun c => (h.1 c).2, h.2⟩)
    (run_read (F := Bits) m ρ fun d w => (range_kernel m hpre d w).2)
  rw [← defs_eq] at h
  exact h

end Cert.Proof.K

end
-- ==== Proof.RefRun.lean ====
/-
  The reference leaves its arguments as they were. Its program is a straight line of host operations; the run is read back at
  the argument buffers, and it declares no semaphore.
-/
module

public import proofs.«01_k».proof.Defs
public import proofs.«01_k».proof.Proof.Gen.ReferenceIdeal.Run
public import proofs.«01_k».proof.Proof.Gen.Pre_in_range

@[expose] public section

noncomputable section

namespace Cert.Proof.Ref

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.Blocks.lean ====
/-
  The TensorCore call's blocks read at an index: point `t`'s blocks of the mask, of the `G` writes and of the two queues' written rows are
  entries `2048 t …` of their arrays; the two queues' root rows are whole at every point. And the arrays the call reads, from the arguments
  and the mask.
-/
module

public import proofs.«01_k».proof.Proof.Final
public import Idealize.ShloMosaic.Lib.Pointwise

@[expose] public section

noncomputable section

namespace Cert.Proof.K

open Cert.KernelIdeal Cert.KernelIdeal.Gen
open Cert.Proof.Table Cert.Proof.Lanes
open Idealize.ShloMosaic Idealize.ShloMosaic.TcCoe Idealize.ShloMosaic.StableHlo Idealize.ShloMosaic.Tactic

variable {F : FTy → Type} [FloatOps F]

/-- Entry `i` of block `t`, of four blocks of 2048. -/
abbrev ent (t : Fin 4) (i : Fin 2048) : Fin 8192 := ⟨t.val * 2048 + i.val, by have := t.isLt; have := i.isLt; omega⟩

/-- Point `t` of the call's grid. -/
abbrev pt (t : Fin 4) : Fin cfg1.N := ⟨t.val, by have := t.isLt; rw [show cfg1.N = 4 from N_1]; exact this⟩

section

variable (V : Valuation τ sig (Elt F)) (t : Fin 4)

theorem index0 : ∀ t : Fin 4, win1_0.index (pt t) 0 = t.val ∧ win1_0.index (pt t) 1 = 0 ∧ win1_0.index (pt t) 2 = 0 := by decide +kernel
theorem index1 : ∀ t : Fin 4, win1_1.index (pt t) 0 = 0 ∧ win1_1.index (pt t) 1 = 0 := by decide +kernel
theorem index2 : ∀ t : Fin 4, win1_2.index (pt t) 0 = 0 ∧ win1_2.index (pt t) 1 = 0 := by decide +kernel
theorem index3 : ∀ t : Fin 4, win1_3.index (pt t) 0 = 0 ∧ win1_3.index (pt t) 1 = t.val := by decide +kernel
theorem index4 : ∀ t : Fin 4, win1_4.index (pt t) 0 = 0 ∧ win1_4.index (pt t) 1 = t.val ∧ win1_4.index (pt t) 2 = 0 := by decide +kernel
theorem index5 : ∀ t : Fin 4, win1_5.index (pt t) 0 = 0 ∧ win1_5.index (pt t) 1 = t.val ∧ win1_5.index (pt t) 2 = 0 := by decide +kernel

theorem b0_at (i : Fin 2048) : b0 V (pt t) (ix3 0 0 i) = (V (Proc.devRef .tc main_v1) : S4x1x2048.Idx → F .f32) (ix3 t 0 i) := by
  refine congrArg (V (Proc.devRef .tc main_v1) : S4x1x2048.Idx → F .f32) (funext fun a => Fin.ext ?_)
  obtain ⟨h0, h1, h2⟩ := index0 t
  fin_cases a <;> blk_simp [h0, h1, h2] <;> rfl

theorem b1_at (b : Fin 4) (c : Fin 128) : b1 V (pt t) (ix2 b c) = (V (Proc.devRef .tc main_v2) : S4x128.Idx → F .f32) (ix2 b c) := by
  refine congrArg (V (Proc.devRef .tc main_v2) : S4x128.Idx → F .f32) (funext fun a => Fin.ext ?_)
  obtain ⟨h0, h1⟩ := index1 t
  fin_cases a <;> blk_simp [h0, h1] <;> rfl

theorem b2_at (b : Fin 4) (c : Fin 64) : b2 V (pt t) (ix2 b c) = (V (Proc.devRef .tc main_v3) : S4x64.Idx → F .f32) (ix2 b c) := by
  refine congrArg (V (Proc.devRef .tc main_v3) : S4x64.Idx → F .f32) (funext fun a => Fin.ext ?_)
  obtain ⟨h0, h1⟩ := index2 t
  fin_cases a <;> blk_simp [h0, h1] <;> rfl

theorem b3_at (b : Fin 4) (i : Fin 2048) : b3 V (pt t) (ix2 b i) = (V (Proc.devRef .tc main_v4) : S4x8192.Idx → F .f32) (ix2 b (ent t i)) := by
  refine congrArg (V (Proc.devRef .tc main_v4) : S4x8192.Idx → F .f32) (funext fun a => Fin.ext ?_)
  obtain ⟨h0, h1⟩ := index3 t
  fin_cases a <;> blk_simp [h0, h1] <;> rfl

theorem b4_at (b : Fin 4) (i : Fin 2048) (c : Fin 128) :
    b4 V (pt t) (ix3 b i c) = (V (Proc.devRef .tc main_arg4) : S4x8192x128.Idx → F .f32) (ix3 b (ent t i) c) := by
  refine congrArg (V (Proc.devRef .tc main_arg4) : S4x8192x128.Idx → F .f32) (funext fun a => Fin.ext ?_)
  obtain ⟨h0, h1, h2⟩ := index4 t
  fin_cases a <;> blk_simp [h0, h1, h2] <;> rfl

theorem b5_at (b : Fin 4) (i : Fin 2048) (c : Fin 64) :
    b5 V (pt t) (ix3 b i c) = (V (Proc.devRef .tc main_arg5) : S4x8192x64.Idx → F .f32) (ix3 b (ent t i) c) := by
  refine congrArg (V (Proc.devRef .tc main_arg5) : S4x8192x64.Idx → F .f32) (funext fun a => Fin.ext ?_)
  obtain ⟨h0, h1, h2⟩ := index5 t
  fin_cases a <;> blk_simp [h0, h1, h2] <;> rfl

end

/-! ## The arrays the call reads -/

section

variable (m : (ℓ : Loc nD τ sig) → Buf (Elt F) ℓ) (d : Dev nD)

theorem V5_v1 : V5 m d (Proc.devRef .tc main_v1) = (shapeCast S4x1x2048 (M (F := F) m d) shapeCasts_S8192_S4x1x2048 : S4x1x2048.Idx → F .f32) := by
  unfold V5
  rw [HloOp.result_of_not_mem _ _ (show _ ∉ ({Proc.devRef .tc main_v4} : Finset (DevRef τ sig)) by decide),
    HloOp.result_of_not_mem _ _ (show _ ∉ ({Proc.devRef .tc main_v3} : Finset (DevRef τ sig)) by decide),
    HloOp.result_of_not_mem _ _ (show _ ∉ ({Proc.devRef .tc main_v2} : Finset (DevRef τ sig)) by decide)]
  refine (reshape_result main_v0 main_v1 _ _ _ _ _).trans ?_
  show shapeCast S4x1x2048 (V1 m d k') _ = _
  unfold V1
  rw [Function.update_self]

theorem V5_v2 : V5 m d (Proc.devRef .tc main_v2) = (shapeCast S4x128 (m (d, Proc.devRef .tc main_arg0) : S4x1x128.Idx → F .f32) shapeCasts_S4x1x128_S4x128 : S4x128.Idx → F .f32) := by
  unfold V5
  rw [HloOp.result_of_not_mem _ _ (show _ ∉ ({Proc.devRef .tc main_v4} : Finset (DevRef τ sig)) by decide),
    HloOp.result_of_not_mem _ _ (show _ ∉ ({Proc.devRef .tc main_v3} : Finset (DevRef τ sig)) by decide)]
  refine (reshape_result main_arg0 main_v2 _ _ _ _ _).trans ?_
  show shapeCast S4x128 ((opMask (F := F)).result (V1 m d) (Proc.devRef .tc main_arg0)) _ = _
  rw [HloOp.result_of_not_mem _ _ (show _ ∉ ({Proc.devRef .tc main_v1} : Finset (DevRef τ sig)) by decide)]
  unfold V1
  rw [Function.update_of_ne (by decide)]
  rfl

theorem V5_v3 : V5 m d (Proc.devRef .tc main_v3) = (shapeCast S4x64 (m (d, Proc.devRef .tc main_arg1) : S4x1x64.Idx → F .f32) shapeCasts_S4x1x64_S4x64 : S4x64.Idx → F .f32) := by
  unfold V5
  rw [HloOp.result_of_not_mem _ _ (show _ ∉ ({Proc.devRef .tc main_v4} : Finset (DevRef τ sig)) by decide)]
  refine (reshape_result main_arg1 main_v3 _ _ _ _ _).trans ?_
  show shapeCast S4x64 ((opQ0 (F := F)).result ((opMask (F := F)).result (V1 m d)) (Proc.devRef .tc main_arg1)) _ = _
  rw [HloOp.result_of_not_mem _ _ (show _ ∉ ({Proc.devRef .tc main_v2} : Finset (DevRef τ sig)) by decide),
    HloOp.result_of_not_mem _ _ (show _ ∉ ({Proc.devRef .tc main_v1} : Finset (DevRef τ sig)) by decide)]
  unfold V1
  rw [Function.update_of_ne (by decide)]
  rfl

theorem V5_v4 : V5 m d (Proc.devRef .tc main_v4) = (shapeCast S4x8192 (m (d, Proc.devRef .tc main_arg3) : S4x8192x1.Idx → F .f32) shapeCasts_S4x8192x1_S4x8192 : S4x8192.Idx → F .f32) := by
  unfold V5
  refine (reshape_result main_arg3 main_v4 _ _ _ _ _).trans ?_
  show shapeCast S4x8192 ((opQ1 (F := F)).result ((opQ0 (F := F)).result ((opMask (F := F)).result (V1 m d))) (Proc.devRef .tc main_arg3)) _ = _
  rw [HloOp.result_of_not_mem _ _ (show _ ∉ ({Proc.devRef .tc main_v3} : Finset (DevRef τ sig)) by decide),
    HloOp.result_of_not_mem _ _ (show _ ∉ ({Proc.devRef .tc main_v2} : Finset (DevRef τ sig)) by decide),
    HloOp.result_of_not_mem _ _ (show _ ∉ ({Proc.devRef .tc main_v1} : Finset (DevRef τ sig)) by decide)]
  unfold V1
  rw [Function.update_of_ne (by decide)]
  rfl

theorem V5_arg (r : Ref sig .tc) (h0 : Proc.devRef .tc r ≠ k') (h1 : Proc.devRef .tc r ∉ (opMask (F := F)).writes)
    (h2 : Proc.devRef .tc r ∉ (opQ0 (F := F)).writes) (h3 : Proc.devRef .tc r ∉ (opQ1 (F := F)).writes) (h4 : Proc.devRef .tc r ∉ (opWG (F := F)).writes) :
    V5 m d (Proc.devRef .tc r) = m (d, Proc.devRef .tc r) := by
  unfold V5 V1
  rw [HloOp.result_of_not_mem _ _ h4, HloOp.result_of_not_mem _ _ h3, HloOp.result_of_not_mem _ _ h2, HloOp.result_of_not_mem _ _ h1,
    Function.update_of_ne h0]
  rfl

theorem V5_arg4 : V5 m d (Proc.devRef .tc main_arg4) = m (d, Proc.devRef .tc main_arg4) :=
  V5_arg m d main_arg4 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide)
theorem V5_arg5 : V5 m d (Proc.devRef .tc main_arg5) = m (d, Proc.devRef .tc main_arg5) :=
  V5_arg m d main_arg5 (by decide) (show _ ∉ ({Proc.devRef .tc main_v1} : Finset (DevRef τ sig)) by decide) (show _ ∉ ({Proc.devRef .tc main_v2} : Finset (DevRef τ sig)) by decide)
    (show _ ∉ ({Proc.devRef .tc main_v3} : Finset (DevRef τ sig)) by decide) (show _ ∉ ({Proc.devRef .tc main_v4} : Finset (DevRef τ sig)) by decide)

end

end Cert.Proof.K

end
-- ==== Proof.Columns.lean ====
/-
  Six blocks of columns side by side, read at a column: the form in which both programs' results are compared.
-/
module

public import Idealize.ShloMosaic.Lib.Pointwise

@[expose] public section

noncomputable section

namespace Cert.Proof

open Idealize.ShloMosaic

variable {α : Type}

/-- Blocks of 128, 64, 1, 128, 64 and 1 columns, at row `b` and column `j`. -/
def cols (x0 : (⟨2, ![4, 128]⟩ : Shape).Idx → α) (x1 : (⟨2, ![4, 64]⟩ : Shape).Idx → α) (x2 : (⟨2, ![4, 1]⟩ : Shape).Idx → α)
    (x3 : (⟨2, ![4, 128]⟩ : Shape).Idx → α) (x4 : (⟨2, ![4, 64]⟩ : Shape).Idx → α) (x5 : (⟨2, ![4, 1]⟩ : Shape).Idx → α) (b : Fin 4) (j : Fin 386) : α :=
  if h0 : j.val < 128 then x0 (ix2 b ⟨j.val, h0⟩)
  else if h1 : j.val - 128 < 64 then x1 (ix2 b ⟨j.val - 128, h1⟩)
  else if j.val - 128 - 64 < 1 then x2 (ix2 b 0)
  else if h3 : j.val - 128 - 64 - 1 < 128 then x3 (ix2 b ⟨j.val - 128 - 64 - 1, h3⟩)
  else if h4 : j.val - 128 - 64 - 1 - 128 < 64 then x4 (ix2 b ⟨j.val - 128 - 64 - 1 - 128, h4⟩)
  else x5 (ix2 b 0)

theorem cols_congr {x0 y0 : (⟨2, ![4, 128]⟩ : Shape).Idx → α} {x1 y1 : (⟨2, ![4, 64]⟩ : Shape).Idx → α} {x2 y2 : (⟨2, ![4, 1]⟩ : Shape).Idx → α}
    {x3 y3 : (⟨2, ![4, 128]⟩ : Shape).Idx → α} {x4 y4 : (⟨2, ![4, 64]⟩ : Shape).Idx → α} {x5 y5 : (⟨2, ![4, 1]⟩ : Shape).Idx → α} (b : Fin 4) (j : Fin 386)
    (h0 : ∀ c, x0 (ix2 b c) = y0 (ix2 b c)) (h1 : ∀ c, x1 (ix2 b c) = y1 (ix2 b c)) (h2 : x2 (ix2 b 0) = y2 (ix2 b 0))
    (h3 : ∀ c, x3 (ix2 b c) = y3 (ix2 b c)) (h4 : ∀ c, x4 (ix2 b c) = y4 (ix2 b c)) (h5 : x5 (ix2 b 0) = y5 (ix2 b 0)) :
    cols x0 x1 x2 x3 x4 x5 b j = cols y0 y1 y2 y3 y4 y5 b j := by
  unfold cols
  simp only [h0, h1, h2, h3, h4, h5]

theorem at_norm {n : Nat} (x : (⟨2, ![4, n]⟩ : Shape).Idx → α) (k : (⟨2, ![4, n]⟩ : Shape).Idx) (b : Fin 4) (c : Fin n)
    (h0 : (k 0).val = b.val) (h1 : (k 1).val = c.val) : x (Shape.Idx.norm k) = x (ix2 b c) := by
  refine congrArg x (funext fun a => Fin.ext ?_)
  fin_cases a
  · exact h0
  · exact h1

theorem concatenate_cols (x0 : (⟨2, ![4, 128]⟩ : Shape).Idx → α) (x1 : (⟨2, ![4, 64]⟩ : Shape).Idx → α) (x2 : (⟨2, ![4, 1]⟩ : Shape).Idx → α)
    (x3 : (⟨2, ![4, 128]⟩ : Shape).Idx → α) (x4 : (⟨2, ![4, 64]⟩ : Shape).Idx → α) (x5 : (⟨2, ![4, 1]⟩ : Shape).Idx → α)
    (h : Shape.Concatenates [⟨2, ![4, 128]⟩, ⟨2, ![4, 64]⟩, ⟨2, ![4, 1]⟩, ⟨2, ![4, 128]⟩, ⟨2, ![4, 64]⟩, ⟨2, ![4, 1]⟩] ⟨2, ![4, 386]⟩ 1) (b : Fin 4) (j : Fin 386) :
    concatenate ⟨2, ![4, 386]⟩ 1 [⟨_, x0⟩, ⟨_, x1⟩, ⟨_, x2⟩, ⟨_, x3⟩, ⟨_, x4⟩, ⟨_, x5⟩] h (ix2 b j) = cols x0 x1 x2 x3 x4 x5 b j := by
  have hj := j.isLt
  rw [concatenate_cons_apply]
  unfold cols
  by_cases h0 : j.val < 128
  · rw [concatenateAt_cons, dif_pos (by exact h0), dif_pos h0]
    exact at_norm _ _ _ _ rfl rfl
  rw [concatenateAt_cons, dif_neg (by exact h0), dif_neg h0]
  by_cases h1 : j.val - 128 < 64
  · rw [concatenateAt_cons, dif_pos (by exact h1), dif_pos h1]
    exact at_norm _ _ _ _ rfl rfl
  rw [concatenateAt_cons, dif_neg (by exact h1), dif_neg h1]
  by_cases h2 : j.val - 128 - 64 < 1
  · rw [concatenateAt_cons, dif_pos (by exact h2), if_pos h2]
    exact at_norm _ _ _ _ rfl (by show j.val - 128 - 64 = 0; omega)
  rw [concatenateAt_cons, dif_neg (by exact h2), if_neg h2]
  by_cases h3 : j.val - 128 - 64 - 1 < 128
  · rw [concatenateAt_cons, dif_pos (by exact h3), dif_pos h3]
    exact at_norm _ _ _ _ rfl rfl
  rw [concatenateAt_cons, dif_neg (by exact h3), dif_neg h3]
  by_cases h4 : j.val - 128 - 64 - 1 - 128 < 64
  · rw [concatenateAt_cons, dif_pos (by exact h4), dif_pos h4]
    exact at_norm _ _ _ _ rfl rfl
  rw [concatenateAt_cons, dif_neg (by exact h4), dif_neg h4, concatenateAt_singleton]
  exact at_norm _ _ _ _ rfl (by show j.val - 128 - 64 - 1 - 128 - 64 = 0; omega)

/-- Three one-column blocks side by side. -/
theorem concatenate_three (x0 x1 x2 : (⟨2, ![4, 1]⟩ : Shape).Idx → α)
    (h : Shape.Concatenates [⟨2, ![4, 1]⟩, ⟨2, ![4, 1]⟩, ⟨2, ![4, 1]⟩] ⟨2, ![4, 3]⟩ 1) (b : Fin 4) :
    concatenate ⟨2, ![4, 3]⟩ 1 [⟨_, x0⟩, ⟨_, x1⟩, ⟨_, x2⟩] h (ix2 b 0) = x0 (ix2 b 0)
      ∧ concatenate ⟨2, ![4, 3]⟩ 1 [⟨_, x0⟩, ⟨_, x1⟩, ⟨_, x2⟩] h (ix2 b 1) = x1 (ix2 b 0) := by
  constructor
  · rw [concatenate_cons_apply, concatenateAt_cons, dif_pos (by show 0 < 1; decide)]
    exact at_norm _ _ _ _ rfl rfl
  · rw [concatenate_cons_apply, concatenateAt_cons, dif_neg (by show ¬ 1 < 1; decide), concatenateAt_cons, dif_pos (by show 1 - 1 < 1; decide)]
    exact at_norm _ _ _ _ rfl rfl

/-- Two one-column blocks side by side. -/
theorem concatenate_two (x0 x1 : (⟨2, ![4, 1]⟩ : Shape).Idx → α)
    (h : Shape.Concatenates [⟨2, ![4, 1]⟩, ⟨2, ![4, 1]⟩] ⟨2, ![4, 2]⟩ 1) (b : Fin 4) :
    concatenate ⟨2, ![4, 2]⟩ 1 [⟨_, x0⟩, ⟨_, x1⟩] h (ix2 b 0) = x0 (ix2 b 0)
      ∧ concatenate ⟨2, ![4, 2]⟩ 1 [⟨_, x0⟩, ⟨_, x1⟩] h (ix2 b 1) = x1 (ix2 b 0) := by
  constructor
  · rw [concatenate_cons_apply, concatenateAt_cons, dif_pos (by show 0 < 1; decide)]
    exact at_norm _ _ _ _ rfl rfl
  · rw [concatenate_cons_apply, concatenateAt_cons, dif_neg (by show ¬ 1 < 1; decide), concatenateAt_singleton]
    exact at_norm _ _ _ _ rfl rfl

end Cert.Proof

end
-- ==== Proof.KerValue.lean ====
/-
  The kernel's result read at a row and a column, over the extended reals: the three running sums over the four blocks of 2048 writes are
  one sum over the 8192 writes, and a mask of one and zero keeps or drops a row.
-/
module

public import proofs.«01_k».proof.Proof.Blocks
public import proofs.«01_k».proof.Proof.Columns
public import Idealize.ShloMosaic.Lib.IdealHost

@[expose] public section

noncomputable section

namespace Cert.Proof.K

open Cert.KernelIdeal Cert.KernelIdeal.Gen
open Cert.Proof.Table Cert.Proof.Lanes
open Idealize.ShloMosaic Idealize.ShloMosaic.TcCoe

/-! ## The columns of the output block -/

/-- A piece of the output over columns `o …` read at a column of it. -/
theorem piece_hit {F : FTy → Type} [FloatOps F] {o n : ℕ} (inb : ∀ a, (![0, o] : Fin 2 → ℕ) a + (![4, n] : Fin 2 → ℕ) a ≤ S4x386.size a)
    (w : (⟨2, ![4, n]⟩ : Shape).Idx → F .f32) (L : List (View.Piece (Elt F) S4x386 .f32)) (b : Fin 4) (j : Fin 386) (c : Fin n) (h : j.val = o + c.val) :
    View.canon (Val := Elt F) (e := .f32) (⟨Rect.unit (s := S4x386) ![0, o] ![4, n] inb, w⟩ :: L) (ix2 b j) = w (ix2 b c) := by
  have he : (ix2 b j : S4x386.Idx) = (Rect.unit (s := S4x386) ![0, o] ![4, n] inb).emb (ix2 b c : (⟨2, ![4, n]⟩ : Shape).Idx) := by
    funext a
    refine Fin.ext ?_
    fin_cases a
    · show b.val = 0 + 1 * b.val
      omega
    · show j.val = o + 1 * c.val
      omega
  rw [he]
  exact View.canon_cons_emb (Val := Elt F) (e := .f32) (Rect.unit (s := S4x386) ![0, o] ![4, n] inb) w L (ix2 b c : (⟨2, ![4, n]⟩ : Shape).Idx)

/-- The same at a column before it. -/
theorem piece_miss {F : FTy → Type} [FloatOps F] {o n : ℕ} (inb : ∀ a, (![0, o] : Fin 2 → ℕ) a + (![4, n] : Fin 2 → ℕ) a ≤ S4x386.size a)
    (w : (⟨2, ![4, n]⟩ : Shape).Idx → F .f32) (L : List (View.Piece (Elt F) S4x386 .f32)) (b : Fin 4) (j : Fin 386) (h : j.val < o) :
    View.canon (Val := Elt F) (e := .f32) (⟨Rect.unit (s := S4x386) ![0, o] ![4, n] inb, w⟩ :: L) (ix2 b j) = View.canon L (ix2 b j) := by
  refine View.canon_cons_of_not_mem (Val := Elt F) (e := .f32) _ _ fun hm => ?_
  have := (Rect.mem_set_unit.mp (show (ix2 b j : S4x386.Idx) ∈ (Rect.unit (s := S4x386) ![0, o] ![4, n] inb).set from hm) 1).1
  exact absurd (show o ≤ j.val from this) (by omega)

theorem outOf_at {F : FTy → Type} [FloatOps F] (X2 A : FVec F S4x128 .f32) (X3 B : FVec F S4x64 .f32) (C : FVec F S4x1 .f32) (b : Fin 4) (j : Fin 386) :
    outOf X2 A X3 B C (ix2 b j) = cols (k1_pay2 X2) (k1_pay3 X3) (k1_pay4 (F := F)) A B C b j := by
  have hj := j.isLt
  unfold outOf cols
  by_cases h0 : j.val < 128
  · rw [dif_pos h0]
    refine (piece_miss inb_S4x386_S4x1_0_385 C _ b j (by omega)).trans ?_
    refine (piece_miss inb_S4x386_S4x64_0_321 B _ b j (by omega)).trans ?_
    refine (piece_miss inb_S4x386_S4x128_0_193 A _ b j (by omega)).trans ?_
    refine (piece_miss inb_S4x386_S4x1_0_192 _ _ b j (by omega)).trans ?_
    refine (piece_miss inb_S4x386_S4x64_0_128 _ _ b j (by omega)).trans ?_
    exact piece_hit inb_S4x386_S4x128_0_0 _ _ b j ⟨j.val, h0⟩ (by show j.val = 0 + j.val; omega)
  rw [dif_neg h0]
  by_cases h1 : j.val - 128 < 64
  · rw [dif_pos h1]
    refine (piece_miss inb_S4x386_S4x1_0_385 C _ b j (by omega)).trans ?_
    refine (piece_miss inb_S4x386_S4x64_0_321 B _ b j (by omega)).trans ?_
    refine (piece_miss inb_S4x386_S4x128_0_193 A _ b j (by omega)).trans ?_
    refine (piece_miss inb_S4x386_S4x1_0_192 _ _ b j (by omega)).trans ?_
    exact piece_hit inb_S4x386_S4x64_0_128 _ _ b j ⟨j.val - 128, h1⟩ (by show j.val = 128 + (j.val - 128); omega)
  rw [dif_neg h1]
  by_cases h2 : j.val - 128 - 64 < 1
  · rw [if_pos h2]
    refine (piece_miss inb_S4x386_S4x1_0_385 C _ b j (by omega)).trans ?_
    refine (piece_miss inb_S4x386_S4x64_0_321 B _ b j (by omega)).trans ?_
    refine (piece_miss inb_S4x386_S4x128_0_193 A _ b j (by omega)).trans ?_
    exact piece_hit inb_S4x386_S4x1_0_192 _ _ b j 0 (by show j.val = 192 + 0; omega)
  rw [if_neg h2]
  by_cases h3 : j.val - 128 - 64 - 1 < 128
  · rw [dif_pos h3]
    refine (piece_miss inb_S4x386_S4x1_0_385 C _ b j (by omega)).trans ?_
    refine (piece_miss inb_S4x386_S4x64_0_321 B _ b j (by omega)).trans ?_
    exact piece_hit inb_S4x386_S4x128_0_193 A _ b j ⟨j.val - 128 - 64 - 1, h3⟩ (by show j.val = 193 + (j.val - 128 - 64 - 1); omega)
  rw [dif_neg h3]
  by_cases h4 : j.val - 128 - 64 - 1 - 128 < 64
  · rw [dif_pos h4]
    refine (piece_miss inb_S4x386_S4x1_0_385 C _ b j (by omega)).trans ?_
    exact piece_hit inb_S4x386_S4x64_0_321 B _ b j ⟨j.val - 128 - 64 - 1 - 128, h4⟩ (by show j.val = 321 + (j.val - 128 - 64 - 1 - 128); omega)
  rw [dif_neg h4]
  exact piece_hit inb_S4x386_S4x1_0_385 C _ b j 0 (by show j.val = 385 + 0; omega)

/-! ## One point's step of the running sums -/

theorem pay2_eq (X : S4x128.Idx → EReal) : k1_pay2 (F := Ideal) X = X := shapeCast_id _ _
theorem pay3_eq (X : S4x64.Idx → EReal) : k1_pay3 (F := Ideal) X = X := shapeCast_id _ _
theorem pay5_eq (X : S4x128.Idx → EReal) : k1_pay5 (F := Ideal) X = X := (shapeCast_id _ _).trans (shapeCast_id _ _)
theorem pay6_eq (X : S4x64.Idx → EReal) : k1_pay6 (F := Ideal) X = X := (shapeCast_id _ _).trans (shapeCast_id _ _)
theorem pay7_eq : k1_pay7 (F := Ideal) = fun _ => Ideal.ofBits .f32 0xC4000000#32 := shapeCast_id _ _

section

variable (V : Valuation τ sig (Elt Ideal)) (t : Fin 4)

abbrev B0 : S1x1x2048.Idx → EReal := b0 V (pt t)
abbrev B1 : S4x128.Idx → EReal := b1 V (pt t)
abbrev B2 : S4x64.Idx → EReal := b2 V (pt t)
abbrev B3 : S4x2048.Idx → EReal := b3 V (pt t)
abbrev B4 : S4x2048x128.Idx → EReal := b4 V (pt t)
abbrev B5 : S4x2048x64.Idx → EReal := b5 V (pt t)

theorem mask_row (b : Fin 4) (i : Fin 2048) (x : S1x1x2048.Idx → EReal) {D : ℕ} (c : Fin D) (h : S1x2048x1.Broadcasts ⟨3, ![4, 2048, D]⟩) :
    broadcastTo ⟨3, ![4, 2048, D]⟩ (shapeCast S1x2048x1 (k1_pay8 (F := Ideal) x) shapeCasts_S2048_S1x2048x1) h (ix3 b i c) = x (ix3 0 0 i) := by
  refine (broadcastTo_apply _ _ _ (ix3 0 i 0) fun a => ?_).trans ?_
  · fin_cases a <;> rfl
  refine (shapeCast_apply _ _ _ (ix1 i) ?_).trans ?_
  · rw [rowMajor_val1, rowMajor_val3 _ 2048 1 rfl rfl]
    show i.val = 0 * 2048 + i.val * 1 + 0
    omega
  refine shapeCast_apply _ _ _ (ix3 0 0 i) ?_
  rw [rowMajor_val1, rowMajor_val3 _ 2048 2048 rfl rfl]
  show 0 * 2048 + 0 * 2048 + i.val = i.val
  omega

theorem nx0_at (A : S4x128.Idx → EReal) (b : Fin 4) (c : Fin 128) :
    @Eq EReal (nx0 V (pt t) A (ix2 b c)) ((if t.val = 0 then B1 V t (ix2 b c) else A (ix2 b c)) + ∑ i, B4 V t (ix3 b i c) * B0 V t (ix3 0 0 i)) := by
  unfold nx0 k1_pay9
  refine (congrFun (shapeCast_id _ _) (ix2 b c)).trans ?_
  refine congrArg₂ (· + ·) ?_ ?_
  · unfold in0
    by_cases h : t.val = 0
    · rw [if_pos ((cond1_iff (pt t)).2 h), if_pos h, pay5_eq]
    · rw [if_neg (fun h' => h ((cond1_iff (pt t)).1 h')), if_neg h]
  · refine (Ideal.reduceAdd_r3_a1 reduces_S4x2048x128_S4x128 _ (ix2 b c)).trans (Finset.sum_congr rfl fun i _ => ?_)
    exact congrArg (B4 V t (ix3 b i c) * ·) (mask_row b i (B0 V t) c broadcasts_S1x2048x1_S4x2048x128)

theorem nx1_at (A : S4x64.Idx → EReal) (b : Fin 4) (c : Fin 64) :
    @Eq EReal (nx1 V (pt t) A (ix2 b c)) ((if t.val = 0 then B2 V t (ix2 b c) else A (ix2 b c)) + ∑ i, B5 V t (ix3 b i c) * B0 V t (ix3 0 0 i)) := by
  unfold nx1 k1_pay10
  refine (congrFun (shapeCast_id _ _) (ix2 b c)).trans ?_
  refine congrArg₂ (· + ·) ?_ ?_
  · unfold in1
    by_cases h : t.val = 0
    · rw [if_pos ((cond1_iff (pt t)).2 h), if_pos h, pay6_eq]
    · rw [if_neg (fun h' => h ((cond1_iff (pt t)).1 h')), if_neg h]
  · refine (Ideal.reduceAdd_r3_a1 reduces_S4x2048x64_S4x64 _ (ix2 b c)).trans (Finset.sum_congr rfl fun i _ => ?_)
    exact congrArg (B5 V t (ix3 b i c) * ·) (mask_row b i (B0 V t) c broadcasts_S1x2048x1_S4x2048x64)

theorem nx2_at (A : S4x1.Idx → EReal) (b : Fin 4) :
    @Eq EReal (nx2 V (pt t) A (ix2 b 0)) ((if t.val = 0 then Ideal.ofBits .f32 0xC4000000#32 else A (ix2 b 0)) + ∑ i, B3 V t (ix2 b i)) := by
  unfold nx2 k1_pay1
  refine (congrFun (shapeCast_id (s := S4x1) _ _) (ix2 b (0 : Fin 1))).trans ?_
  refine congrArg₂ (· + ·) ?_ ?_
  · unfold in2
    by_cases h : t.val = 0
    · rw [if_pos ((cond1_iff (pt t)).2 h), if_pos h, pay7_eq]
    · rw [if_neg (fun h' => h ((cond1_iff (pt t)).1 h')), if_neg h]
  · unfold k1_pay11
    refine (shapeCast_apply (s := S4) (t := S4x1) _ shapeCasts_S4_S4x1 (ix2 b (0 : Fin 1)) (ix1 b) ?_).trans ?_
    · rw [rowMajor_val1, rowMajor_val2 _ 1 rfl]
      show b.val = b.val * 1 + 0
      omega
    refine (Ideal.reduceAdd_r2_a1 reduces_S4x2048_S4 _ (ix1 b)).trans (Finset.sum_congr rfl fun i _ => ?_)
    exact congrFun (shapeCast_id (s := S4x2048) (B3 V t) shapeCasts_S4x2048_S4x2048) (ix2 b i)

end

/-! ## The sums after the last point -/

/-- A running sum reset at its first point is the sum over the four points. -/
theorem run4 {A : Type*} [AddCommMonoid A] (q : A) (f : Fin 4 → A) (a : ℕ → A)
    (h : ∀ t : Fin 4, a (t.val + 1) = (if t.val = 0 then q else a t.val) + f t) : a 4 = q + ∑ t, f t := by
  have h0 : a 1 = q + f 0 := h 0
  have h1 : a 2 = a 1 + f 1 := h 1
  have h2 : a 3 = a 2 + f 2 := h 2
  have h3 : a 4 = a 3 + f 3 := h 3
  rw [h3, h2, h1, h0, Fin.sum_univ_four]
  simp only [add_assoc]

section

variable (V : Valuation τ sig (Elt Ideal))

theorem acc0_at (b : Fin 4) (c : Fin 128) (q : EReal) (hq : ∀ t, B1 V t (ix2 b c) = q) (f : Fin 8192 → EReal)
    (hf : ∀ t i, B4 V t (ix3 b i c) * B0 V t (ix3 0 0 i) = f (ent t i)) : @Eq EReal (acc0 V 4 (ix2 b c)) (q + ∑ w, f w) := by
  rw [Fin.sum_univ_tiles 4 2048 rfl f]
  refine run4 q _ (fun n => (acc0 V n (ix2 b c) : EReal)) fun t => ?_
  show @Eq EReal (acc0 V ((pt t).val + 1) (ix2 b c)) _
  refine (congrFun (acc0_succ V (pt t) (acc0 V t.val) fun _ => rfl).symm (ix2 b c)).trans ((nx0_at V t _ b c).trans ?_)
  rw [hq t]
  exact congrArg _ (Finset.sum_congr rfl fun i _ => hf t i)

theorem acc1_at (b : Fin 4) (c : Fin 64) (q : EReal) (hq : ∀ t, B2 V t (ix2 b c) = q) (f : Fin 8192 → EReal)
    (hf : ∀ t i, B5 V t (ix3 b i c) * B0 V t (ix3 0 0 i) = f (ent t i)) : @Eq EReal (acc1 V 4 (ix2 b c)) (q + ∑ w, f w) := by
  rw [Fin.sum_univ_tiles 4 2048 rfl f]
  refine run4 q _ (fun n => (acc1 V n (ix2 b c) : EReal)) fun t => ?_
  show @Eq EReal (acc1 V ((pt t).val + 1) (ix2 b c)) _
  refine (congrFun (acc1_succ V (pt t) (acc1 V t.val) fun _ => rfl).symm (ix2 b c)).trans ((nx1_at V t _ b c).trans ?_)
  rw [hq t]
  exact congrArg _ (Finset.sum_congr rfl fun i _ => hf t i)

theorem acc2_at (b : Fin 4) (f : Fin 8192 → EReal) (hf : ∀ t i, B3 V t (ix2 b i) = f (ent t i)) :
    @Eq EReal (acc2 V 4 (ix2 b 0)) (Ideal.ofBits .f32 0xC4000000#32 + ∑ w, f w) := by
  rw [Fin.sum_univ_tiles 4 2048 rfl f]
  refine run4 _ _ (fun n => (acc2 V n (ix2 b 0) : EReal)) fun t => ?_
  show @Eq EReal (acc2 V ((pt t).val + 1) (ix2 b 0)) _
  refine (congrFun (acc2_succ V (pt t) (acc2 V t.val) fun _ => rfl).symm (ix2 b 0)).trans ((nx2_at V t _ b).trans ?_)
  exact congrArg _ (Finset.sum_congr rfl fun i _ => hf t i)

end

/-! ## The result -/

section

variable (m : (ℓ : Loc nD τ sig) → Buf (Elt Ideal) ℓ) (d : Dev nD)

abbrev Q0 : S4x1x128.Idx → EReal := m (d, Proc.devRef .tc main_arg0)
abbrev Q1 : S4x1x64.Idx → EReal := m (d, Proc.devRef .tc main_arg1)
abbrev WG : S4x8192x1.Idx → EReal := m (d, Proc.devRef .tc main_arg3)
abbrev W0 : S4x8192x128.Idx → EReal := m (d, Proc.devRef .tc main_arg4)
abbrev W1 : S4x8192x64.Idx → EReal := m (d, Proc.devRef .tc main_arg5)

theorem mask_at (t : Fin 4) (i : Fin 2048) :
    B0 (V5 m d) t (ix3 0 0 i) = if Last (I m d) (ix1 (ent t i)) then 1 else 0 := by
  refine (b0_at (V5 m d) t i).trans ?_
  rw [V5_v1]
  refine (shapeCast_apply _ _ _ (ix1 (ent t i)) ?_).trans ?_
  · rw [rowMajor_val1, rowMajor_val3 _ 2048 2048 rfl rfl]
    show t.val * 2048 + i.val = t.val * 2048 + 0 * 2048 + i.val
    omega
  · show (if _ then _ else _ : EReal) = _
    refine if_congr Iff.rfl ?_ ?_
    · exact Ideal.ofBits_one_f32
    · exact Ideal.ofBits_zero_f32

theorem q0_at (t : Fin 4) (b : Fin 4) (c : Fin 128) : B1 (V5 m d) t (ix2 b c) = Q0 m d (ix3 b 0 c) := by
  refine (b1_at (V5 m d) t b c).trans ?_
  rw [V5_v2]
  refine shapeCast_apply _ _ _ (ix3 b 0 c) ?_
  rw [rowMajor_val2 _ 128 rfl, rowMajor_val3 _ 128 128 rfl rfl]
  show b.val * 128 + 0 * 128 + c.val = b.val * 128 + c.val
  omega

theorem q1_at (t : Fin 4) (b : Fin 4) (c : Fin 64) : B2 (V5 m d) t (ix2 b c) = Q1 m d (ix3 b 0 c) := by
  refine (b2_at (V5 m d) t b c).trans ?_
  rw [V5_v3]
  refine shapeCast_apply _ _ _ (ix3 b 0 c) ?_
  rw [rowMajor_val2 _ 64 rfl, rowMajor_val3 _ 64 64 rfl rfl]
  show b.val * 64 + 0 * 64 + c.val = b.val * 64 + c.val
  omega

theorem wG_at (t : Fin 4) (b : Fin 4) (i : Fin 2048) : B3 (V5 m d) t (ix2 b i) = WG m d (ix3 b (ent t i) 0) := by
  refine (b3_at (V5 m d) t b i).trans ?_
  rw [V5_v4]
  refine shapeCast_apply _ _ _ (ix3 b (ent t i) 0) ?_
  rw [rowMajor_val2 _ 8192 rfl, rowMajor_val3 _ 8192 1 rfl rfl]
  show b.val * 8192 + (t.val * 2048 + i.val) * 1 + 0 = b.val * 8192 + (t.val * 2048 + i.val)
  omega

theorem w0_at (t : Fin 4) (b : Fin 4) (i : Fin 2048) (c : Fin 128) : B4 (V5 m d) t (ix3 b i c) = W0 m d (ix3 b (ent t i) c) := by
  refine (b4_at (V5 m d) t b i c).trans ?_
  rw [V5_arg4]

theorem w1_at (t : Fin 4) (b : Fin 4) (i : Fin 2048) (c : Fin 64) : B5 (V5 m d) t (ix3 b i c) = W1 m d (ix3 b (ent t i) c) := by
  refine (b5_at (V5 m d) t b i c).trans ?_
  rw [V5_arg5]

/-- One or zero times a row keeps it or drops it. -/
theorem mul_mask (p : Prop) [Decidable p] (x : EReal) : x * (if p then 1 else 0) = if p then x else 0 := by
  split
  · exact mul_one x
  · exact mul_zero x

theorem outAt_at (b : Fin 4) (j : Fin 386) :
    @Eq EReal (outAt (V5 m d) t1_3 (ix2 b j)) (cols (fun i => Q0 m d (ix3 (i 0 : Fin 4) 0 (i 1 : Fin 128))) (fun i => Q1 m d (ix3 (i 0 : Fin 4) 0 (i 1 : Fin 64))) (fun _ => 0)
      (fun i => Q0 m d (ix3 (i 0 : Fin 4) 0 (i 1 : Fin 128)) + ∑ w, if Last (I m d) (ix1 w) then W0 m d (ix3 (i 0 : Fin 4) w (i 1 : Fin 128)) else 0)
      (fun i => Q1 m d (ix3 (i 0 : Fin 4) 0 (i 1 : Fin 64)) + ∑ w, if Last (I m d) (ix1 w) then W1 m d (ix3 (i 0 : Fin 4) w (i 1 : Fin 64)) else 0)
      (fun i => (Ideal.ofBits .f32 0xC4000000#32 : EReal) + ∑ w : Fin 8192, WG m d (ix3 (i 0 : Fin 4) w 0)) b j) := by
  unfold outAt
  refine (outOf_at (F := Ideal) _ _ _ _ _ b j).trans ?_
  refine cols_congr (α := EReal) b j (fun c => ?_) (fun c => ?_) ?_ (fun c => ?_) (fun c => ?_) ?_
  · exact (congrFun (pay2_eq _) (ix2 b c)).trans (q0_at m d 3 b c)
  · exact (congrFun (pay3_eq _) (ix2 b c)).trans (q1_at m d 3 b c)
  · exact Ideal.ofBits_zero_f32
  · refine acc0_at (V5 m d) b c _ (fun t => q0_at m d t b c) (fun w => if Last (I m d) (ix1 w) then W0 m d (ix3 b w c) else 0) fun t i => ?_
    rw [mask_at, w0_at]
    exact mul_mask _ _
  · refine acc1_at (V5 m d) b c _ (fun t => q1_at m d t b c) (fun w => if Last (I m d) (ix1 w) then W1 m d (ix3 b w c) else 0) fun t i => ?_
    rw [mask_at, w1_at]
    exact mul_mask _ _
  · exact acc2_at (V5 m d) b (fun w => WG m d (ix3 b w 0)) fun t i => wG_at m d t b i

end

end Cert.Proof.K

end
-- ==== Proof.Scatters.lean ====
/-
  The reference's scatters and gathers read at an index: where an update of each lands, the element a scatter that writes leaves
  (the last update that lands there), the element a scatter that adds leaves, and the row a gather takes.
-/
module

public import Idealize.ShloMosaic.Lib.Routing.OpsPair
public import Idealize.ShloMosaic.Lib.Routing.OpsSet
public import Idealize.ShloMosaic.Lib.Pointwise

@[expose] public section

noncomputable section

namespace Cert.Proof.Ref

open Idealize.ShloMosaic Idealize.ShloMosaic.Routing

/-! ## The last update that lands -/

theorem foldl_last {ι α : Type} (hit : ι → Bool) (v : ι → α) (l₁ l₂ : List ι) (n : ι) (a : α) (hn : hit n = true)
    (h₂ : ∀ x ∈ l₂, hit x = false) : (l₁ ++ n :: l₂).foldl (fun a n => if hit n = true then v n else a) a = v n := by
  rw [List.foldl_append, List.foldl_cons, if_pos hn]
  induction l₂ with
  | nil => rfl
  | cons x l ih =>
    rw [List.foldl_cons, h₂ x List.mem_cons_self, if_neg (by decide)]
    exact ih fun y hy => h₂ y (List.mem_cons_of_mem _ hy)

/-- A scatter that writes leaves, at an element, the last update (in row-major order) that lands there. -/
theorem scatter_last {α : Type} {s si u : Shape} {w : Nat} (d : ScatterDims s si u) (x0 : s.Idx → α) (idx : IVec si w) (upd : u.Idx → α)
    (ι : s.Idx) (k : u.Idx) (hk : d.resultIdx? k idx = some ι)
    (hmax : ∀ k', d.resultIdx? k' idx = some ι → (u.rowMajor k').val ≤ (u.rowMajor k).val) :
    Host.scatter d (fun _ b => b) x0 idx upd ι = upd k := by
  rw [scatter_at]
  obtain ⟨l₁, l₂, hl⟩ := List.append_of_mem (List.mem_finRange (u.rowMajor k))
  have hs : (List.finRange u.numel).Pairwise (· < ·) := List.pairwise_lt_finRange _
  rw [hl] at hs
  have h2 := (List.pairwise_cons.1 (List.pairwise_append.1 hs).2.1).1
  have key := foldl_last (fun n => decide (d.resultIdx? (u.rowMajor.symm n) idx = some ι)) (fun n => upd (u.rowMajor.symm n)) l₁ l₂ (u.rowMajor k) (x0 ι)
    (by simpa using hk) (fun x hx => by
      refine decide_eq_false fun h => ?_
      have := hmax _ h
      rw [Equiv.apply_symm_apply] at this
      have := h2 x hx
      omega)
  rw [hl]
  simp only [decide_eq_true_eq, Equiv.symm_apply_apply] at key
  exact key

/-! ## The scatter of rows: one row of `D` per index pair -/

section Rows

variable {D : Nat}

abbrev dRow (wf : ScatterDims.WF ⟨4, ![4, 65536, 1, D]⟩ ⟨2, ![8192, 2]⟩ ⟨3, ![4, 8192, D]⟩ [0, 2] [1, 2] [1, 2] 1) :
    ScatterDims ⟨4, ![4, 65536, 1, D]⟩ ⟨2, ![8192, 2]⟩ ⟨3, ![4, 8192, D]⟩ := ⟨[0, 2], [1, 2], [1, 2], 1, wf⟩

variable (wf : ScatterDims.WF ⟨4, ![4, 65536, 1, D]⟩ ⟨2, ![8192, 2]⟩ ⟨3, ![4, 8192, D]⟩ [0, 2] [1, 2] [1, 2] 1)

theorem lands_row (b b' : Fin 4) (w : Fin 8192) (c c' : Fin D) (n : Fin 65536) (idx : IVec ⟨2, ![8192, 2]⟩ 32) :
    (dRow wf).resultIdx? (ix3 b' w c') idx = some (ix4 b n 0 c)
      ↔ b' = b ∧ (idx (ix2 w 0)).toInt = (n.val : Int) ∧ (idx (ix2 w 1)).toInt = 0 ∧ c' = c := by
  rw [resultIdx?_eq_some]
  have e1 : (dRow wf).start (ix3 b' w c') idx 1 = (idx (ix2 w 0)).toInt := by
    show (idx ((dRow wf).siIdx (ix3 b' w c') ⟨0, _⟩)).toInt = _
    congr 2
    funext a
    fin_cases a <;> rfl
  have e2 : (dRow wf).start (ix3 b' w c') idx 2 = (idx (ix2 w 1)).toInt := by
    show (idx ((dRow wf).siIdx (ix3 b' w c') ⟨1, _⟩)).toInt = _
    congr 2
    funext a
    fin_cases a <;> rfl
  have e0 : (dRow wf).start (ix3 b' w c') idx 0 = 0 := rfl
  have e3 : (dRow wf).start (ix3 b' w c') idx 3 = 0 := rfl
  have w0 : (dRow wf).window (ix3 b' w c') 0 = b'.val := rfl
  have w1 : (dRow wf).window (ix3 b' w c') 1 = 0 := rfl
  have w2 : (dRow wf).window (ix3 b' w c') 2 = 0 := rfl
  have w3 : (dRow wf).window (ix3 b' w c') 3 = c'.val := rfl
  constructor
  · intro h
    have h0 := h 0; have h1 := h 1; have h2 := h 2; have h3 := h 3
    rw [e0, w0] at h0; rw [e1, w1] at h1; rw [e2, w2] at h2; rw [e3, w3] at h3
    change (0 : Int) + (b'.val : Int) = (b.val : Int) at h0
    change _ + ((0 : ℕ) : Int) = (n.val : Int) at h1
    change _ + ((0 : ℕ) : Int) = ((0 : ℕ) : Int) at h2
    change (0 : Int) + (c'.val : Int) = (c.val : Int) at h3
    exact ⟨Fin.ext (by omega), by omega, by omega, Fin.ext (by omega)⟩
  · rintro ⟨rfl, h1, h2, rfl⟩ a
    fin_cases a
    · show (dRow wf).start (ix3 b' w c') idx 0 + ((dRow wf).window (ix3 b' w c') 0 : Int) = (b'.val : Int)
      rw [e0, w0]; omega
    · show (dRow wf).start (ix3 b' w c') idx 1 + ((dRow wf).window (ix3 b' w c') 1 : Int) = (n.val : Int)
      rw [e1, w1]; omega
    · show (dRow wf).start (ix3 b' w c') idx 2 + ((dRow wf).window (ix3 b' w c') 2 : Int) = ((0 : ℕ) : Int)
      rw [e2, w2]; omega
    · show (dRow wf).start (ix3 b' w c') idx 3 + ((dRow wf).window (ix3 b' w c') 3 : Int) = (c'.val : Int)
      rw [e3, w3]; omega

variable {α : Type} (x0 : (⟨4, ![4, 65536, 1, D]⟩ : Shape).Idx → α) (idx : IVec ⟨2, ![8192, 2]⟩ 32) (upd : (⟨3, ![4, 8192, D]⟩ : Shape).Idx → α)
  (I : Fin 8192 → Fin 65536) (h0 : ∀ w, (idx (ix2 w 0)).toInt = ((I w).val : Int)) (h1 : ∀ w, (idx (ix2 w 1)).toInt = 0)
  (b : Fin 4) (n : Fin 65536) (c : Fin D)

include h0 h1 in
/-- A node that some write names holds the row of the last one. -/
theorem rows_hit (w : Fin 8192) (hw : I w = n) (hlast : ∀ w', I w' = n → w' ≤ w) :
    Host.scatter (dRow wf) (fun _ b => b) x0 idx upd (ix4 b n 0 c) = upd (ix3 b w c) := by
  refine scatter_last _ _ _ _ _ (ix3 b w c) ((lands_row wf b b w c c n idx).2 ⟨rfl, by rw [h0, hw], h1 w, rfl⟩) fun k' hk' => ?_
  rw [eq_ix3 k'] at hk' ⊢
  obtain ⟨hb, hn, -, hc⟩ := (lands_row wf b _ _ c _ n idx).1 hk'
  replace hn := (h0 (k' 1)).symm.trans hn
  have hle : (k' 1).val ≤ w.val := hlast (k' 1) (Fin.ext (by omega))
  rw [rowMajor_val3 _ (8192 * D) D rfl rfl, rowMajor_val3 _ (8192 * D) D rfl rfl]
  have h0' : k' 0 = b := hb
  have h2' : k' 2 = c := hc
  show (k' 0).val * (8192 * D) + (k' 1).val * D + (k' 2).val ≤ b.val * (8192 * D) + w.val * D + c.val
  rw [h0', h2']
  have := Nat.mul_le_mul_right D hle
  omega

include h0 in
/-- A node that no write names holds what it held. -/
theorem rows_miss (hw : ∀ w, I w ≠ n) : Host.scatter (dRow wf) (fun _ b => b) x0 idx upd (ix4 b n 0 c) = x0 (ix4 b n 0 c) := by
  refine scatter_set_miss _ _ _ _ _ fun k hk => ?_
  rw [eq_ix3 k] at hk
  obtain ⟨-, hn, -, -⟩ := (lands_row wf b _ _ c _ n idx).1 hk
  replace hn := (h0 (k 1)).symm.trans hn
  exact hw (k 1) (Fin.ext (by omega))

end Rows

/-! ## The scatter of one row of `D` at a literal node -/

section First

variable {D : Nat}

abbrev dFirst (wf : ScatterDims.WF ⟨4, ![4, 65536, 1, D]⟩ ⟨1, ![1]⟩ ⟨3, ![4, 1, D]⟩ [0, 1, 2] [1] [1] 0) :
    ScatterDims ⟨4, ![4, 65536, 1, D]⟩ ⟨1, ![1]⟩ ⟨3, ![4, 1, D]⟩ := ⟨[0, 1, 2], [1], [1], 0, wf⟩

variable (wf : ScatterDims.WF ⟨4, ![4, 65536, 1, D]⟩ ⟨1, ![1]⟩ ⟨3, ![4, 1, D]⟩ [0, 1, 2] [1] [1] 0)

theorem lands_first (b b' : Fin 4) (z : Fin 1) (c c' : Fin D) (n : Fin 65536) (idx : IVec ⟨1, ![1]⟩ 32) :
    (dFirst wf).resultIdx? (ix3 b' z c') idx = some (ix4 b n 0 c) ↔ b' = b ∧ (idx (ix1 0)).toInt = (n.val : Int) ∧ c' = c := by
  rw [resultIdx?_eq_some]
  have e1 : (dFirst wf).start (ix3 b' z c') idx 1 = (idx (ix1 0)).toInt := by
    show (idx ((dFirst wf).siIdx (ix3 b' z c') ⟨0, _⟩)).toInt = _
    congr 2
    funext a
    fin_cases a; rfl
  have hz : z.val = 0 := by omega
  constructor
  · intro h
    have h0 := h 0; have h1 := h 1; have h3 := h 3
    rw [e1] at h1
    change (0 : Int) + (b'.val : Int) = (b.val : Int) at h0
    change _ + ((0 : ℕ) : Int) = (n.val : Int) at h1
    change (0 : Int) + (c'.val : Int) = (c.val : Int) at h3
    exact ⟨Fin.ext (by omega), by omega, Fin.ext (by omega)⟩
  · rintro ⟨rfl, h1, rfl⟩ a
    fin_cases a
    · show (0 : Int) + (b'.val : Int) = (b'.val : Int); omega
    · show (dFirst wf).start (ix3 b' z c') idx 1 + ((0 : ℕ) : Int) = (n.val : Int)
      rw [e1]; omega
    · show (0 : Int) + (z.val : Int) = ((0 : ℕ) : Int); omega
    · show (0 : Int) + (c'.val : Int) = (c'.val : Int); omega

variable {α : Type} (x0 : (⟨4, ![4, 65536, 1, D]⟩ : Shape).Idx → α) (idx : IVec ⟨1, ![1]⟩ 32) (upd : (⟨3, ![4, 1, D]⟩ : Shape).Idx → α)
  (b : Fin 4) (n : Fin 65536) (c : Fin D)

theorem first_at (r : Fin 65536) (hr : (idx (ix1 0)).toInt = (r.val : Int)) :
    Host.scatter (dFirst wf) (fun _ b => b) x0 idx upd (ix4 b n 0 c) = if n = r then upd (ix3 b 0 c) else x0 (ix4 b n 0 c) := by
  by_cases hn : n = r
  · rw [if_pos hn]
    refine scatter_set_hit _ _ _ _ _ _ (fun k hk => ?_) (ix3 b 0 c) ((lands_first wf b b 0 c c n idx).2 ⟨rfl, by rw [hr, hn], rfl⟩)
    rw [eq_ix3 k] at hk ⊢
    obtain ⟨hb, -, hc⟩ := (lands_first wf b _ _ c _ n idx).1 hk
    have h1 : k 1 = (0 : Fin 1) := Subsingleton.elim (α := Fin 1) _ _
    have h0' : k 0 = b := hb
    have h2' : k 2 = c := hc
    rw [h0', h1, h2']
  · rw [if_neg hn]
    refine scatter_set_miss _ _ _ _ _ fun k hk => ?_
    rw [eq_ix3 k] at hk
    obtain ⟨-, h, -⟩ := (lands_first wf b _ _ c _ n idx).1 hk
    rw [hr] at h
    exact hn (Fin.ext (by omega))

end First

/-! ## The scatter of one column entry, of `E` lanes, at a literal node -/

section Cell

variable {E : Nat}

abbrev dCell (wf : ScatterDims.WF ⟨3, ![4, 65536, E]⟩ ⟨1, ![1]⟩ ⟨2, ![4, E]⟩ [0, 1] [1] [1] 0) :
    ScatterDims ⟨3, ![4, 65536, E]⟩ ⟨1, ![1]⟩ ⟨2, ![4, E]⟩ := ⟨[0, 1], [1], [1], 0, wf⟩

variable (wf : ScatterDims.WF ⟨3, ![4, 65536, E]⟩ ⟨1, ![1]⟩ ⟨2, ![4, E]⟩ [0, 1] [1] [1] 0)

theorem lands_cell (b b' : Fin 4) (c c' : Fin E) (n : Fin 65536) (idx : IVec ⟨1, ![1]⟩ 32) :
    (dCell wf).resultIdx? (ix2 b' c') idx = some (ix3 b n c) ↔ b' = b ∧ (idx (ix1 0)).toInt = (n.val : Int) ∧ c' = c := by
  rw [resultIdx?_eq_some]
  have e1 : (dCell wf).start (ix2 b' c') idx 1 = (idx (ix1 0)).toInt := by
    show (idx ((dCell wf).siIdx (ix2 b' c') ⟨0, _⟩)).toInt = _
    congr 2
    funext a
    fin_cases a; rfl
  constructor
  · intro h
    have h0 := h 0; have h1 := h 1; have h3 := h 2
    rw [e1] at h1
    change (0 : Int) + (b'.val : Int) = (b.val : Int) at h0
    change _ + ((0 : ℕ) : Int) = (n.val : Int) at h1
    change (0 : Int) + (c'.val : Int) = (c.val : Int) at h3
    exact ⟨Fin.ext (by omega), by omega, Fin.ext (by omega)⟩
  · rintro ⟨rfl, h1, rfl⟩ a
    fin_cases a
    · show (0 : Int) + (b'.val : Int) = (b'.val : Int); omega
    · show (dCell wf).start (ix2 b' c') idx 1 + ((0 : ℕ) : Int) = (n.val : Int)
      rw [e1]; omega
    · show (0 : Int) + (c'.val : Int) = (c'.val : Int); omega

variable {α : Type} (x0 : (⟨3, ![4, 65536, E]⟩ : Shape).Idx → α) (idx : IVec ⟨1, ![1]⟩ 32) (upd : (⟨2, ![4, E]⟩ : Shape).Idx → α)
  (b : Fin 4) (n : Fin 65536) (c : Fin E)

theorem cell_at (r : Fin 65536) (hr : (idx (ix1 0)).toInt = (r.val : Int)) :
    Host.scatter (dCell wf) (fun _ b => b) x0 idx upd (ix3 b n c) = if n = r then upd (ix2 b c) else x0 (ix3 b n c) := by
  by_cases hn : n = r
  · rw [if_pos hn]
    refine scatter_set_hit _ _ _ _ _ _ (fun k hk => ?_) (ix2 b c) ((lands_cell wf b b c c n idx).2 ⟨rfl, by rw [hr, hn], rfl⟩)
    rw [eq_ix2 k] at hk ⊢
    obtain ⟨hb, -, hc⟩ := (lands_cell wf b _ c _ n idx).1 hk
    have h0' : k 0 = b := hb
    have h1' : k 1 = c := hc
    rw [h0', h1']
  · rw [if_neg hn]
    refine scatter_set_miss _ _ _ _ _ fun k hk => ?_
    rw [eq_ix2 k] at hk
    obtain ⟨-, h, -⟩ := (lands_cell wf b _ c _ n idx).1 hk
    rw [hr] at h
    exact hn (Fin.ext (by omega))

end Cell

/-! ## The scatter of one entry per index -/

section Column

abbrev dCol (wf : ScatterDims.WF ⟨3, ![4, 65536, 1]⟩ ⟨2, ![8192, 1]⟩ ⟨3, ![4, 8192, 1]⟩ [0, 2] [1] [1] 1) :
    ScatterDims ⟨3, ![4, 65536, 1]⟩ ⟨2, ![8192, 1]⟩ ⟨3, ![4, 8192, 1]⟩ := ⟨[0, 2], [1], [1], 1, wf⟩

variable (wf : ScatterDims.WF ⟨3, ![4, 65536, 1]⟩ ⟨2, ![8192, 1]⟩ ⟨3, ![4, 8192, 1]⟩ [0, 2] [1] [1] 1)

theorem lands_col (b b' : Fin 4) (w : Fin 8192) (c c' : Fin 1) (n : Fin 65536) (idx : IVec ⟨2, ![8192, 1]⟩ 32) :
    (dCol wf).resultIdx? (ix3 b' w c') idx = some (ix3 b n c) ↔ b' = b ∧ (idx (ix2 w 0)).toInt = (n.val : Int) := by
  rw [resultIdx?_eq_some]
  have e1 : (dCol wf).start (ix3 b' w c') idx 1 = (idx (ix2 w 0)).toInt := by
    show (idx ((dCol wf).siIdx (ix3 b' w c') ⟨0, _⟩)).toInt = _
    congr 2
    funext a
    fin_cases a <;> rfl
  constructor
  · intro h
    have h0 := h 0; have h1 := h 1
    rw [e1] at h1
    change (0 : Int) + (b'.val : Int) = (b.val : Int) at h0
    change _ + ((0 : ℕ) : Int) = (n.val : Int) at h1
    exact ⟨Fin.ext (by omega), by omega⟩
  · rintro ⟨rfl, h1⟩ a
    fin_cases a
    · show (0 : Int) + (b'.val : Int) = (b'.val : Int); omega
    · show (dCol wf).start (ix3 b' w c') idx 1 + ((0 : ℕ) : Int) = (n.val : Int)
      rw [e1]; omega
    · show (0 : Int) + (c'.val : Int) = (c.val : Int); omega

variable (idx : IVec ⟨2, ![8192, 1]⟩ 32) (I : Fin 8192 → Fin 65536) (h0 : ∀ w, (idx (ix2 w 0)).toInt = ((I w).val : Int))
  (b : Fin 4) (n : Fin 65536)

include h0 in
/-- A node that no write names keeps its entry. -/
theorem col_miss {α : Type} (x0 : (⟨3, ![4, 65536, 1]⟩ : Shape).Idx → α) (upd : (⟨3, ![4, 8192, 1]⟩ : Shape).Idx → α) (hw : ∀ w, I w ≠ n) :
    Host.scatter (dCol wf) (fun _ b => b) x0 idx upd (ix3 b n 0) = x0 (ix3 b n 0) := by
  refine scatter_set_miss _ _ _ _ _ fun k hk => ?_
  rw [eq_ix3 k] at hk
  obtain ⟨-, hn⟩ := (lands_col wf b _ _ 0 _ n idx).1 hk
  replace hn := (h0 (k 1)).symm.trans hn
  exact hw (k 1) (Fin.ext (by omega))

include h0 in
/-- The scatter that adds: every write that names a node adds its entry there. -/
theorem col_add (x0 : (⟨3, ![4, 65536, 1]⟩ : Shape).Idx → EReal) (upd : (⟨3, ![4, 8192, 1]⟩ : Shape).Idx → EReal) :
    Ideal.hostScatterAdd (dCol wf) x0 idx upd (ix3 b n 0) = x0 (ix3 b n 0) + ∑ w : Fin 8192, if I w = n then upd (ix3 b w 0) else 0 := by
  show x0 (ix3 b n 0) + _ = _
  refine congrArg (x0 (ix3 b n 0) + ·) ?_
  rw [Finset.sum_filter, sum_idx3]
  rw [Finset.sum_eq_single b]
  · refine Finset.sum_congr rfl fun w _ => ?_
    rw [Fin.sum_univ_one]
    refine if_congr ?_ rfl rfl
    rw [lands_col wf b b w 0 0 n idx, h0]
    constructor
    · rintro ⟨-, h⟩; exact Fin.ext (by omega)
    · intro h; exact ⟨rfl, by rw [h]⟩
  · intro b' _ hb
    refine Finset.sum_eq_zero fun w _ => Finset.sum_eq_zero fun z _ => if_neg fun h => hb ((lands_col wf b b' w 0 z n idx).1 h).1
  · intro h; exact absurd (Finset.mem_univ b) h

end Column

/-! ## The gathers of one row -/

section Gather

variable {D : Nat}

abbrev gRow (wf : GatherDims.WF ⟨4, ![4, 65536, 1, D]⟩ ⟨2, ![4, 3]⟩ ⟨2, ![4, D]⟩ [1] [0, 1, 2] [] [0, 1, 2] [] 1 ![1, 1, 1, D]) :
    GatherDims ⟨4, ![4, 65536, 1, D]⟩ ⟨2, ![4, 3]⟩ ⟨2, ![4, D]⟩ := ⟨[1], [0, 1, 2], [], [], [0, 1, 2], 1, ![1, 1, 1, D], wf⟩

theorem gather_row (wf : GatherDims.WF ⟨4, ![4, 65536, 1, D]⟩ ⟨2, ![4, 3]⟩ ⟨2, ![4, D]⟩ [1] [0, 1, 2] [] [0, 1, 2] [] 1 ![1, 1, 1, D])
    {α : Type} (x : (⟨4, ![4, 65536, 1, D]⟩ : Shape).Idx → α) (idx : IVec ⟨2, ![4, 3]⟩ 32) (b r : Fin 4) (n : Fin 65536) (c : Fin D)
    (h0 : (idx (ix2 b 0)).toInt = (r.val : Int)) (h1 : (idx (ix2 b 1)).toInt = (n.val : Int)) :
    Host.gather (gRow wf) x idx (ix2 b c) = x (ix4 r n 0 c) := by
  unfold Host.gather
  congr 1
  have s0 : (gRow wf).start (ix2 b c) idx 0 = min (idx (ix2 b 0)).toInt.toNat 3 := by
    show min (idx ((gRow wf).siIdx (ix2 b c) ⟨0, _⟩)).toInt.toNat 3 = _
    congr 4
    funext a
    fin_cases a <;> rfl
  have s1 : (gRow wf).start (ix2 b c) idx 1 = min (idx (ix2 b 1)).toInt.toNat 65535 := by
    show min (idx ((gRow wf).siIdx (ix2 b c) ⟨1, _⟩)).toInt.toNat 65535 = _
    congr 4
    funext a
    fin_cases a <;> rfl
  have hr := r.isLt; have hn := n.isLt
  funext a
  refine Fin.ext ?_
  fin_cases a
  · show (gRow wf).start (ix2 b c) idx 0 + 0 + 0 = r.val
    rw [s0, h0]; omega
  · show (gRow wf).start (ix2 b c) idx 1 + 0 + 0 = n.val
    rw [s1, h1]; omega
  · show min _ 0 + 0 + 0 = 0
    omega
  · show 0 + 0 + c.val = c.val
    omega

abbrev gCol (wf : GatherDims.WF ⟨3, ![4, 65536, 1]⟩ ⟨2, ![4, 2]⟩ ⟨2, ![4, 1]⟩ [1] [0, 1] [] [0, 1] [] 1 ![1, 1, 1]) :
    GatherDims ⟨3, ![4, 65536, 1]⟩ ⟨2, ![4, 2]⟩ ⟨2, ![4, 1]⟩ := ⟨[1], [0, 1], [], [], [0, 1], 1, ![1, 1, 1], wf⟩

theorem gather_col (wf : GatherDims.WF ⟨3, ![4, 65536, 1]⟩ ⟨2, ![4, 2]⟩ ⟨2, ![4, 1]⟩ [1] [0, 1] [] [0, 1] [] 1 ![1, 1, 1])
    {α : Type} (x : (⟨3, ![4, 65536, 1]⟩ : Shape).Idx → α) (idx : IVec ⟨2, ![4, 2]⟩ 32) (b r : Fin 4) (n : Fin 65536)
    (h0 : (idx (ix2 b 0)).toInt = (r.val : Int)) (h1 : (idx (ix2 b 1)).toInt = (n.val : Int)) :
    Host.gather (gCol wf) x idx (ix2 b 0) = x (ix3 r n 0) := by
  unfold Host.gather
  congr 1
  have s0 : (gCol wf).start (ix2 b 0) idx 0 = min (idx (ix2 b 0)).toInt.toNat 3 := by
    show min (idx ((gCol wf).siIdx (ix2 b 0) ⟨0, _⟩)).toInt.toNat 3 = _
    congr 4
    funext a
    fin_cases a <;> rfl
  have s1 : (gCol wf).start (ix2 b 0) idx 1 = min (idx (ix2 b 1)).toInt.toNat 65535 := by
    show min (idx ((gCol wf).siIdx (ix2 b 0) ⟨1, _⟩)).toInt.toNat 65535 = _
    congr 4
    funext a
    fin_cases a <;> rfl
  have hr := r.isLt; have hn := n.isLt
  funext a
  refine Fin.ext ?_
  fin_cases a
  · show (gCol wf).start (ix2 b 0) idx 0 + 0 + 0 = r.val
    rw [s0, h0]; omega
  · show (gCol wf).start (ix2 b 0) idx 1 + 0 + 0 = n.val
    rw [s1, h1]; omega
  · rfl

end Gather

end Cert.Proof.Ref

end
-- ==== Proof.Folds.lean ====
/-
  Facts of sums and folds the two programs share: the sum of a table in which every write leaves the row of its last writer, the sum of
  a table into which every write adds, a signed minimum with a zero among nonnegative words, and a conjunction with a zero in it.
-/
module

public import Idealize.ShloMosaic.Lib.Pointwise

@[expose] public section

noncomputable section

namespace Cert.Proof.Ref

open Idealize.ShloMosaic

section Sums

variable {A : Type*} [AddCommMonoid A] (I : Fin 8192 → Fin 65536)

/-- The last write of a node: no later one names it. -/
abbrev IsLast (w : Fin 8192) : Prop := ∀ w', I w' = I w → w' ≤ w

theorem exists_last (n : Fin 65536) (h : ∃ w, I w = n) : ∃ w, I w = n ∧ ∀ w', I w' = n → w' ≤ w := by
  obtain ⟨w0, hw0⟩ := h
  obtain ⟨w, hw, hm⟩ := Finset.exists_max_image (Finset.univ.filter fun w => I w = n) id ⟨w0, by simpa using hw0⟩
  exact ⟨w, (Finset.mem_filter.1 hw).2, fun w' h' => hm w' (Finset.mem_filter.2 ⟨Finset.mem_univ _, h'⟩)⟩

/-- The table whose node 0 holds `q`, and whose every written node holds its last writer's entry, sums to `q` plus the entries of the
    last writers, when no write names node 0. -/
theorem sum_last (hI : ∀ w, I w ≠ 0) (x : Fin 65536 → A) (q : A) (u : Fin 8192 → A)
    (hhit : ∀ n w, I w = n → (∀ w', I w' = n → w' ≤ w) → x n = u w) (hmiss : ∀ n, (∀ w, I w ≠ n) → x n = if n = 0 then q else 0) :
    ∑ n, x n = q + ∑ w, if IsLast I w then u w else 0 := by
  have hx : ∀ n, x n = (if n = 0 then q else 0) + ∑ w, if I w = n then (if IsLast I w then u w else 0) else 0 := by
    intro n
    by_cases h : ∃ w, I w = n
    · obtain ⟨w, hw, hl⟩ := exists_last I n h
      rw [hhit n w hw hl, if_neg (fun hn => hI w (hw.trans hn)), zero_add, Finset.sum_eq_single w]
      · rw [if_pos hw, if_pos (fun w' h' => hl w' (h'.trans hw))]
      · intro w' _ hne
        by_cases h' : I w' = n
        · rw [if_pos h', if_neg fun hl' => hne (le_antisymm (hl w' h') (hl' w (hw.trans h'.symm)))]
        · rw [if_neg h']
      · exact fun h' => absurd (Finset.mem_univ _) h'
    · have h' : ∀ w, I w ≠ n := fun w hw => h ⟨w, hw⟩
      rw [hmiss n h', Finset.sum_eq_zero fun w _ => if_neg (h' w), add_zero]
  rw [Finset.sum_congr rfl fun n _ => hx n, Finset.sum_add_distrib, Finset.sum_ite_eq' Finset.univ (0 : Fin 65536) fun _ => q, if_pos (Finset.mem_univ _), Finset.sum_comm]
  refine congrArg (q + ·) (Finset.sum_congr rfl fun w _ => ?_)
  rw [Finset.sum_ite_eq Finset.univ (I w) fun _ => _, if_pos (Finset.mem_univ _)]

/-- The table whose node `r` starts at `q` and into which every write adds its entry sums to `q` plus every entry. -/
theorem sum_add (r : Fin 65536) (q : A) (u : Fin 8192 → A) :
    ∑ n, ((if n = r then q else 0) + ∑ w, if I w = n then u w else 0) = q + ∑ w, u w := by
  rw [Finset.sum_add_distrib, Finset.sum_ite_eq' Finset.univ r fun _ => q, if_pos (Finset.mem_univ _), Finset.sum_comm]
  refine congrArg (q + ·) (Finset.sum_congr rfl fun w _ => ?_)
  rw [Finset.sum_ite_eq Finset.univ (I w) fun _ => _, if_pos (Finset.mem_univ _)]

end Sums

section Folds

theorem minsi_toInt (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

theorem foldl_minsi {ι : Type} (l : List ι) (f : ι → BitVec 32) (a : BitVec 32) (ha : 0 ≤ a.toInt) (hf : ∀ x, 0 ≤ (f x).toInt) :
    0 ≤ (l.foldl (fun r n => IntOp.minsi r (f n)) a).toInt ∧ (l.foldl (fun r n => IntOp.minsi r (f n)) a).toInt ≤ a.toInt
      ∧ ∀ n ∈ l, (l.foldl (fun r n => IntOp.minsi r (f n)) a).toInt ≤ (f n).toInt := by
  induction l generalizing a with
  | nil => exact ⟨ha, le_refl _, fun n hn => absurd hn List.not_mem_nil⟩
  | cons x l ih =>
    have hm := minsi_toInt a (f x)
    have hx := hf x
    obtain ⟨h1, h2, h3⟩ := ih (IntOp.minsi a (f x)) (by omega)
    rw [List.foldl_cons]
    refine ⟨h1, by omega, fun n hn => ?_⟩
    rcases List.mem_cons.1 hn with rfl | hn
    · omega
    · exact h3 n hn

variable {s t u : Shape} {axes : List (Fin s.rank)}

/-- A signed minimum over a fiber of nonnegative words with a zero among them is zero. -/
theorem reduce_minsi_zero (x : IVec s 32) (init : IVec u 32) (h : s.ReducesTo axes t) (hu : 0 < u.numel) (j : t.Idx)
    (hi : 0 ≤ (init (Shape.Idx.first hu)).toInt) (hx : ∀ i, 0 ≤ (x i).toInt) (i₀ : s.Idx) (hd : h.drop i₀ = j) (h0 : x i₀ = 0#32) :
    Host.reduce IntOp.minsi x init h hu j = 0#32 := by
  obtain ⟨h1, -, h3⟩ := foldl_minsi ((List.finRange s.numel).filter fun n => h.drop (s.rowMajor.symm n) = j)
    (fun n => x (s.rowMajor.symm n)) (init (Shape.Idx.first hu)) hi fun n => hx _
  have h4 := h3 (s.rowMajor i₀) (List.mem_filter.2 ⟨List.mem_finRange _, by simpa using hd⟩)
  rw [Equiv.symm_apply_apply, h0] at h4
  refine BitVec.eq_of_toInt_eq ?_
  have h5 : (0#32).toInt = 0 := by decide
  rw [h5] at h4 ⊢
  exact le_antisymm h4 h1

theorem foldl_andi {ι : Type} (l : List ι) (f : ι → BitVec 1) (a : BitVec 1) (h : a = 0#1 ∨ ∃ n ∈ l, f n = 0#1) :
    l.foldl (fun r n => IntOp.andi r (f n)) a = 0#1 := by
  induction l generalizing a with
  | nil =>
    rcases h with h | ⟨n, hn, -⟩
    · exact h
    · exact absurd hn List.not_mem_nil
  | cons x l ih =>
    refine ih _ ?_
    have key : ∀ p q : BitVec 1, p = 0#1 ∨ q = 0#1 → IntOp.andi p q = 0#1 := by decide
    rcases h with h | ⟨n, hn, hz⟩
    · exact Or.inl (key _ _ (Or.inl h))
    · rcases List.mem_cons.1 hn with rfl | hn
      · exact Or.inl (key _ _ (Or.inr hz))
      · exact Or.inr ⟨n, hn, hz⟩

/-- A conjunction over a fiber with a zero in it is zero. -/
theorem reduce_andi_zero (x : IVec s 1) (init : IVec u 1) (h : s.ReducesTo axes t) (hu : 0 < u.numel) (j : t.Idx) (i₀ : s.Idx)
    (hd : h.drop i₀ = j) (h0 : x i₀ = 0#1) : Host.reduce IntOp.andi x init h hu j = 0#1 := by
  refine foldl_andi ((List.finRange s.numel).filter fun n => h.drop (s.rowMajor.symm n) = j) (fun n => x (s.rowMajor.symm n)) _
    (Or.inr ⟨s.rowMajor i₀, List.mem_filter.2 ⟨List.mem_finRange _, by simpa using hd⟩, ?_⟩)
  rw [Equiv.symm_apply_apply]; exact h0

end Folds

end Cert.Proof.Ref

end
-- ==== Proof.RefTables.lean ====
/-
  The reference read at an index, over the extended reals, for write indices in range: its two queue tables and its table of `G`, the node
  its search selects — the root —, and so every column of its result.
-/
module

public import proofs.«01_k».proof.Proof.Gen.ReferenceIdeal.Run
public import proofs.«01_k».proof.Proof.Scatters
public import proofs.«01_k».proof.Proof.Folds
public import Idealize.ShloMosaic.Lib.IdealHost

@[expose] public section

noncomputable section

namespace Cert.Proof.Ref

open Cert.ReferenceIdeal Cert.ReferenceIdeal.Gen Cert.ReferenceIdeal.Value
open Idealize.ShloMosaic Idealize.ShloMosaic.TcCoe Idealize.ShloMosaic.Routing

/-! ## The arguments, the tables and their sums, as arrays of extended reals -/

abbrev A0 (V : Valuation τ sig (Elt Ideal)) : S4x1x128.Idx → EReal := V (Proc.devRef .tc main_arg0)
abbrev A1 (V : Valuation τ sig (Elt Ideal)) : S4x1x64.Idx → EReal := V (Proc.devRef .tc main_arg1)
abbrev A3 (V : Valuation τ sig (Elt Ideal)) : S4x8192x1.Idx → EReal := V (Proc.devRef .tc main_arg3)
abbrev A4 (V : Valuation τ sig (Elt Ideal)) : S4x8192x128.Idx → EReal := V (Proc.devRef .tc main_arg4)
abbrev A5 (V : Valuation τ sig (Elt Ideal)) : S4x8192x64.Idx → EReal := V (Proc.devRef .tc main_arg5)

abbrev T30 (V : Valuation τ sig (Elt Ideal)) : S4x65536x1x128.Idx → EReal := res_main_v30 V
abbrev T41 (V : Valuation τ sig (Elt Ideal)) : S4x65536x1x64.Idx → EReal := res_main_v41 V
abbrev T48 (V : Valuation τ sig (Elt Ideal)) : S4x65536x1.Idx → EReal := res_main_v48 V

abbrev R30 (V : Valuation τ sig (Elt Ideal)) : S4x128.Idx → EReal :=
  Host.reduceAdd (F := Ideal) (φ := .f32) (shapeCast S4x65536x128 (T30 V) shapeCasts_S4x65536x1x128_S4x65536x128) (constant S_ .f32 0x00000000#32) reducesTo_S4x65536x128_S4x128_d1 h_S_
abbrev R41 (V : Valuation τ sig (Elt Ideal)) : S4x64.Idx → EReal :=
  Host.reduceAdd (F := Ideal) (φ := .f32) (shapeCast S4x65536x64 (T41 V) shapeCasts_S4x65536x1x64_S4x65536x64) (constant S_ .f32 0x00000000#32) reducesTo_S4x65536x64_S4x64_d1 h_S_
abbrev R48 (V : Valuation τ sig (Elt Ideal)) : S4x1.Idx → EReal :=
  Host.reduceAdd (F := Ideal) (φ := .f32) (T48 V) (constant S_ .f32 0x00000000#32) reducesTo_S4x65536x1_S4x1_d1 h_S_

/-! ## The write indices -/

/-- Every write names a node from 1 to 65535. -/
abbrev InRange (I : IVec S8192 32) : Prop := ∀ w, 1 ≤ (I w).toNat ∧ (I w).toNat < 65536

/-- The node each write names. -/
abbrev node (I : IVec S8192 32) (hI : InRange I) (w : Fin 8192) : Fin 65536 := ⟨(I (ix1 w)).toNat, (hI _).2⟩

abbrev wrapped (I : IVec S8192 32) : IVec S8192 32 :=
  select (cmpi .slt I (broadcastInDim S8192 ![] bcast_S_S8192 (constantI S_ 32 0#32))) (addi I (broadcastInDim S8192 ![] bcast_S_S8192 (constantI S_ 32 65536#32))) I

abbrev idx1 (I : IVec S8192 32) : IVec S8192x1 32 := broadcastInDim S8192x1 ![0] bcast_S8192_S8192x1_0 (wrapped I)

abbrev idx2 (I : IVec S8192 32) : IVec S8192x2 32 :=
  concatenate S8192x2 1 [⟨S8192x1, idx1 I⟩, ⟨S8192x1, broadcastInDim S8192x1 ![0] bcast_S8192_S8192x1_0 (id (broadcastInDim S8192 ![] bcast_S_S8192 (constantI S_ 32 0#32)))⟩] concatenates_S8192x1_S8192x1_S8192x2_d1

section

variable (I : IVec S8192 32) (hI : InRange I)

include hI in
theorem wrapped_at (w : S8192.Idx) : wrapped I w = I w :=
  wrap_of_lt (I w) _ (by have := hI w; omega)

include hI in
theorem idx1_at (w : Fin 8192) (z : Fin 1) : idx1 I (ix2 w z) = I (ix1 w) := by
  refine (broadcastInDim_apply _ _ _ _ (ix1 w) fun a => ?_).trans (wrapped_at I hI _)
  fin_cases a; rfl

theorem toInt_node (w : Fin 8192) : (I (ix1 w)).toInt = ((node I hI w).val : Int) := by
  have := hI (ix1 w)
  exact BitVec.toInt_eq_toNat_of_lt (by omega)

theorem idx1_toInt (w : Fin 8192) : (idx1 I (ix2 w 0)).toInt = ((node I hI w).val : Int) := by
  rw [idx1_at I hI]; exact toInt_node I hI w

theorem idx2_toInt (w : Fin 8192) : (idx2 I (ix2 w 0)).toInt = ((node I hI w).val : Int) := by
  refine (congrArg BitVec.toInt ?_).trans (idx1_toInt I hI w)
  refine concatenate_pair_apply_left (t := S8192x2) (s₁ := S8192x1) (s₂ := S8192x1) 1 (idx1 I) _ _ (ix2 w 0) rfl (ix2 w 0) fun b => ?_
  fin_cases b <;> rfl

theorem idx2_zero (w : Fin 8192) : (idx2 I (ix2 w 1)).toInt = 0 := by
  refine (congrArg BitVec.toInt (concatenate_pair_apply_right (t := S8192x2) (s₁ := S8192x1) (s₂ := S8192x1) 1 (idx1 I) _ _ (ix2 w 1) rfl rfl (ix2 w 0) (fun b hb => ?_) ?_)).trans ?_
  · fin_cases b
    · rfl
    · exact absurd rfl hb
  · rfl
  · show (0#32).toInt = 0
    decide

theorem node_ne (w : Fin 8192) : node I hI w ≠ 0 := fun h => by
  have h1 := (hI (ix1 w)).1
  have h2 : (I (ix1 w)).toNat = 0 := congrArg Fin.val h
  omega

end

variable (V : Valuation τ sig (Elt Ideal)) (I : IVec S8192 32) (hI : InRange I) (hV : V (Proc.devRef .tc main_arg2) = I)

/-! ## The queue table of 128 lanes -/

section

include hI hV in
theorem v30_hit (b : Fin 4) (n : Fin 65536) (c : Fin 128) (w : Fin 8192) (hw : node I hI w = n) (hl : ∀ w', node I hI w' = n → w' ≤ w) :
    T30 V (ix4 b n 0 c) = A4 V (ix3 b w c) := by
  subst hV
  exact rows_hit (D := 128) scatter_S4x65536x1x128_S8192x2_S4x8192x128_02_12_12_1_wf _ (idx2 _) _ (node _ hI) (idx2_toInt _ hI) (idx2_zero _) b n c w hw hl

include hI hV in
theorem v30_miss (b : Fin 4) (n : Fin 65536) (c : Fin 128) (hw : ∀ w, node I hI w ≠ n) :
    T30 V (ix4 b n 0 c) = if n = 0 then A0 V (ix3 b 0 c) else 0 := by
  subst hV
  refine (rows_miss (D := 128) scatter_S4x65536x1x128_S8192x2_S4x8192x128_02_12_12_1_wf _ (idx2 _) _ (node _ hI) (idx2_toInt _ hI) b n c hw).trans ?_
  refine (first_at (D := 128) scatter_S4x65536x1x128_S1_S4x1x128_012_1_1_0_wf _ _ _ b n c 0 (by show (0#32).toInt = _; decide)).trans ?_
  refine if_congr Iff.rfl rfl ?_
  exact Ideal.ofBits_zero_f32

include hI hV in
theorem v30_root (b : Fin 4) (c : Fin 128) :
    T30 V (ix4 b 0 0 c) = A0 V (ix3 b 0 c) :=
  (v30_miss V I hI hV b 0 c (node_ne I hI)).trans (if_pos rfl)

include hI hV in
theorem sum30 (b : Fin 4) (c : Fin 128) :
    R30 V (ix2 b c)
      = A0 V (ix3 b 0 c)
        + ∑ w, if IsLast (node I hI) w then A4 V (ix3 b w c) else 0 := by
  refine (Ideal.hostReduceAdd_r3_a1 reducesTo_S4x65536x128_S4x128_d1 _ _ (ix2 b c)).trans ?_
  refine (congrArg (· + _) (Ideal.ofBits_zero_f32)).trans ?_
  rw [zero_add, ← sum_last (node I hI) (node_ne I hI) (fun n => T30 V (ix4 b n 0 c)) _ _
    (fun n w hw hl => v30_hit V I hI hV b n c w hw hl) (fun n hw => v30_miss V I hI hV b n c hw)]
  refine Finset.sum_congr rfl fun n _ => ?_
  refine shapeCast_apply _ _ _ (ix4 b n 0 c) ?_
  rw [rowMajor_val4 _ (65536 * 128) 128 128 rfl rfl rfl, rowMajor_val3 _ (65536 * 128) 128 rfl rfl]
  show b.val * (65536 * 128) + n.val * 128 + 0 * 128 + c.val = b.val * (65536 * 128) + n.val * 128 + c.val
  omega

end

/-! ## The queue table of 64 lanes -/

section

include hI hV in
theorem v41_hit (b : Fin 4) (n : Fin 65536) (c : Fin 64) (w : Fin 8192) (hw : node I hI w = n) (hl : ∀ w', node I hI w' = n → w' ≤ w) :
    T41 V (ix4 b n 0 c) = A5 V (ix3 b w c) := by
  subst hV
  exact rows_hit (D := 64) scatter_S4x65536x1x64_S8192x2_S4x8192x64_02_12_12_1_wf _ (idx2 _) _ (node _ hI) (idx2_toInt _ hI) (idx2_zero _) b n c w hw hl

include hI hV in
theorem v41_miss (b : Fin 4) (n : Fin 65536) (c : Fin 64) (hw : ∀ w, node I hI w ≠ n) :
    T41 V (ix4 b n 0 c) = if n = 0 then A1 V (ix3 b 0 c) else 0 := by
  subst hV
  refine (rows_miss (D := 64) scatter_S4x65536x1x64_S8192x2_S4x8192x64_02_12_12_1_wf _ (idx2 _) _ (node _ hI) (idx2_toInt _ hI) b n c hw).trans ?_
  refine (first_at (D := 64) scatter_S4x65536x1x64_S1_S4x1x64_012_1_1_0_wf _ _ _ b n c 0 (by show (0#32).toInt = _; decide)).trans ?_
  refine if_congr Iff.rfl rfl ?_
  exact Ideal.ofBits_zero_f32

include hI hV in
theorem v41_root (b : Fin 4) (c : Fin 64) :
    T41 V (ix4 b 0 0 c) = A1 V (ix3 b 0 c) :=
  (v41_miss V I hI hV b 0 c (node_ne I hI)).trans (if_pos rfl)

include hI hV in
theorem sum41 (b : Fin 4) (c : Fin 64) :
    R41 V (ix2 b c)
      = A1 V (ix3 b 0 c)
        + ∑ w, if IsLast (node I hI) w then A5 V (ix3 b w c) else 0 := by
  refine (Ideal.hostReduceAdd_r3_a1 reducesTo_S4x65536x64_S4x64_d1 _ _ (ix2 b c)).trans ?_
  refine (congrArg (· + _) (Ideal.ofBits_zero_f32)).trans ?_
  rw [zero_add, ← sum_last (node I hI) (node_ne I hI) (fun n => T41 V (ix4 b n 0 c)) _ _
    (fun n w hw hl => v41_hit V I hI hV b n c w hw hl) (fun n hw => v41_miss V I hI hV b n c hw)]
  refine Finset.sum_congr rfl fun n _ => ?_
  refine shapeCast_apply _ _ _ (ix4 b n 0 c) ?_
  rw [rowMajor_val4 _ (65536 * 64) 64 64 rfl rfl rfl, rowMajor_val3 _ (65536 * 64) 64 rfl rfl]
  show b.val * (65536 * 64) + n.val * 64 + 0 * 64 + c.val = b.val * (65536 * 64) + n.val * 64 + c.val
  omega

end

/-! ## The table of `G` -/

include hI hV in
theorem v48_at (b : Fin 4) (n : Fin 65536) :
    T48 V (ix3 b n 0) = (if n = 65535 then (Ideal.ofBits .f32 0xC4000000#32 : EReal) else 0)
      + ∑ w : Fin 8192, if node I hI w = n then A3 V (ix3 b w 0) else 0 := by
  subst hV
  refine (col_add scatter_S4x65536x1_S8192x1_S4x8192x1_02_1_1_1_wf (idx1 _) (node _ hI) (idx1_toInt _ hI) b n _ _).trans ?_
  refine congrArg (· + _) ?_
  refine (cell_at (E := 1) scatter_S4x65536x1_S1_S4x1_01_1_1_0_wf _ _ _ b n 0 65535 (by show (65535#32).toInt = _; decide)).trans ?_
  refine if_congr Iff.rfl rfl ?_
  exact Ideal.ofBits_zero_f32

include hI hV in
theorem v48_root (b : Fin 4) : T48 V (ix3 b 0 0) = 0 := by
  rw [v48_at V I hI hV, if_neg (by decide), Finset.sum_eq_zero fun w _ => if_neg (node_ne I hI w), add_zero]

include hI hV in
theorem sum48 (b : Fin 4) :
    R48 V (ix2 b 0)
      = (Ideal.ofBits .f32 0xC4000000#32 : EReal) + ∑ w : Fin 8192, A3 V (ix3 b w 0) := by
  refine (Ideal.hostReduceAdd_r3_a1 reducesTo_S4x65536x1_S4x1_d1 _ _ (ix2 b 0)).trans ?_
  refine (congrArg (· + _) (Ideal.ofBits_zero_f32)).trans ?_
  rw [zero_add, ← sum_add (node I hI) 65535]
  exact Finset.sum_congr rfl fun n _ => v48_at V I hI hV b n

/-! ## The node the search selects -/

theorem iota_at (b : Fin 4) (n : Fin 65536) :
    broadcastInDim S4x65536 ![0, 1] bcast_S1x65536_S4x65536_0_1 (broadcastInDim S1x65536 ![1] bcast_S65536_S1x65536_1 (iotaInDim S65536 32 0)) (ix2 b n)
      = BitVec.ofNat 32 n.val := by
  refine (broadcastInDim_apply _ _ _ _ (ix2 0 n) fun a => ?_).trans
    ((broadcastInDim_apply _ _ _ _ (ix1 n) fun a => ?_).trans rfl)
  · fin_cases a <;> rfl
  · fin_cases a; rfl

include hI hV in
theorem v78_zero (b : Fin 4) : (res_main_v78 V : IVec S4 32) (ix1 b) = 0#32 := by
  subst hV
  have t0 : (0#32).toInt = ((0 : Fin 65536).val : Int) := by decide
  unfold res_main_v78
  refine reduce_minsi_zero _ _ _ _ _ ?_ ?_ (ix2 b 0) ?_ ?_
  · show 0 ≤ (2147483647#32).toInt
    decide
  · intro i
    have key : ∀ (c : BitVec 1) (x y : BitVec 32), 0 ≤ x.toInt → 0 ≤ y.toInt → 0 ≤ (Scalar.select c x y).toInt := by
      intro c x y hx hy
      unfold Scalar.select
      split <;> assumption
    refine key _ _ _ ?_ ?_
    · have h1 : (i 1).val < 65536 := (i 1).isLt
      refine le_of_le_of_eq ?_ (congrArg BitVec.toInt ((iota_at (i 0) (i 1)).symm.trans (congrArg _ (eq_ix2 i).symm)))
      rw [BitVec.toInt_eq_toNat_of_lt (by rw [BitVec.toNat_ofNat]; omega)]
      exact Int.natCast_nonneg _
    · show 0 ≤ (65536#32).toInt
      decide
  · funext a
    fin_cases a; rfl
  · have key : ∀ (x y : BitVec 32) (c : BitVec 1), c = 1#1 → Scalar.select c x y = x := by
      intro x y c hc
      subst hc
      rfl
    refine (key _ _ _ ?_).trans ?_
    · have k3 : ∀ p q r : BitVec 1, p = 1#1 → q = 1#1 → r = 0#1 → IntOp.andi (IntOp.andi p q) (~~~r) = 1#1 := by decide
      refine k3 _ _ _ ?_ ?_ ?_
      · refine (shapeCast_apply _ _ _ (ix3 b 0 0) ?_).trans ?_
        · rw [rowMajor_val3 _ 65536 1 rfl rfl, rowMajor_val2 _ 65536 rfl]
          show b.val * 65536 + 0 * 1 + 0 = b.val * 65536 + 0
          omega
        · refine (col_miss scatter_S4x65536x1_S8192x1_S4x8192x1_02_1_1_1_wf (idx1 _) (node _ hI) (idx1_toInt _ hI) b 0 _ _ (node_ne _ hI)).trans ?_
          refine (cell_at (E := 1) scatter_S4x65536x1_S1_S4x1_01_1_1_0_wf _ _ _ b 0 0 0 t0).trans ?_
          exact if_pos rfl
      · refine (shapeCast_apply _ _ _ (ix3 b 0 0) ?_).trans ?_
        · rw [rowMajor_val3 _ 65536 1 rfl rfl, rowMajor_val2 _ 65536 rfl]
          show b.val * 65536 + 0 * 1 + 0 = b.val * 65536 + 0
          omega
        · refine (congrArg (fun x => IntOp.cmpi .eq x (0#32)) (col_miss scatter_S4x65536x1_S8192x1_S4x8192x1_02_1_1_1_wf (idx1 _) (node _ hI) (idx1_toInt _ hI) b 0 _ _ (node_ne _ hI))).trans ?_
          show IntOp.cmpi .eq (0#32) (0#32) = 1#1
          decide
      · refine reduce_andi_zero _ _ _ _ _ (ix3 b 0 0) ?_ ?_
        · funext a
          fin_cases a <;> rfl
        · refine (congrArg (fun x => IntOp.cmpi .eq x (4294967295#32)) ((cell_at (E := 2) scatter_S4x65536x2_S1_S4x2_01_1_1_0_wf _ _ _ b 0 0 0 t0).trans (if_pos rfl))).trans ?_
          show IntOp.cmpi .eq (0#32) (4294967295#32) = 0#1
          decide
    · exact iota_at b 0

include hI hV in
theorem v81_zero (b : Fin 4) : (res_main_v81 V : IVec S4 32) (ix1 b) = 0#32 := by
  unfold res_main_v81
  show Scalar.select (IntOp.cmpi .slt ((res_main_v78 V : IVec S4 32) (ix1 b)) (65536#32)) ((res_main_v78 V : IVec S4 32) (ix1 b)) (4294967295#32) = 0#32
  rw [v78_zero V I hI hV]
  decide

end Cert.Proof.Ref

end
-- ==== Proof.RefValue.lean ====
/-
  The reference's result read at a row and a column, over the extended reals, for write indices in range.
-/
module

public import proofs.«01_k».proof.Proof.RefTables
public import proofs.«01_k».proof.Proof.Columns

@[expose] public section

noncomputable section

namespace Cert.Proof.Ref

open Cert.ReferenceIdeal Cert.ReferenceIdeal.Gen Cert.ReferenceIdeal.Value
open Idealize.ShloMosaic Idealize.ShloMosaic.TcCoe Idealize.ShloMosaic.Routing

/-! ## The result's six blocks -/

section

variable (V : Valuation τ sig (Elt Ideal))

abbrev pickB : IVec S4x1 32 :=
  broadcastInDim S4x1 ![0] bcast_S4_S4x1_0 (select (cmpi .slt (res_main_v82 V) (broadcastInDim S4 ![] bcast_S_S4 (constantI S_ 32 0#32))) (addi (res_main_v82 V) (broadcastInDim S4 ![] bcast_S_S4 (constantI S_ 32 4#32))) (res_main_v82 V))
abbrev pickN : IVec S4x1 32 :=
  broadcastInDim S4x1 ![0] bcast_S4_S4x1_0 (select (cmpi .slt (res_main_v81 V) (broadcastInDim S4 ![] bcast_S_S4 (constantI S_ 32 0#32))) (addi (res_main_v81 V) (broadcastInDim S4 ![] bcast_S_S4 (constantI S_ 32 65536#32))) (res_main_v81 V))
abbrev pickA : IVec S4x1 32 := broadcastInDim S4x1 ![0] bcast_S4_S4x1_0 (id (broadcastInDim S4 ![] bcast_S_S4 (constantI S_ 32 0#32)))
abbrev pick3 : IVec S4x3 32 := concatenate S4x3 1 [⟨S4x1, pickB V⟩, ⟨S4x1, pickN V⟩, ⟨S4x1, pickA⟩] concatenates_S4x1_S4x1_S4x1_S4x3_d1
abbrev pick2 : IVec S4x2 32 := concatenate S4x2 1 [⟨S4x1, pickB V⟩, ⟨S4x1, pickN V⟩] concatenates_S4x1_S4x1_S4x2_d1

abbrev G30 : S4x128.Idx → EReal := Host.gather gather_S4x65536x1x128_S4x3_S4x128_1_012_n_n_012_1_111128 (T30 V) (pick3 V)
abbrev G41 : S4x64.Idx → EReal := Host.gather gather_S4x65536x1x64_S4x3_S4x64_1_012_n_n_012_1_11164 (T41 V) (pick3 V)
abbrev G48 : S4x1.Idx → EReal := Host.gather gather_S4x65536x1_S4x2_S4x1_1_01_n_n_01_1_111 (T48 V) (pick2 V)

/-- The reference's result. -/
abbrev result : S4x386.Idx → EReal :=
  concatenate S4x386 1 [⟨S4x128, G30 V⟩, ⟨S4x64, G41 V⟩, ⟨S4x1, G48 V⟩, ⟨S4x128, R30 V⟩, ⟨S4x64, R41 V⟩, ⟨S4x1, R48 V⟩] concatenates_S4x128_S4x64_S4x1_S4x128_S4x64_S4x1_S4x386_d1

theorem pickB_at (b : Fin 4) : pickB V (ix2 b 0) = BitVec.ofNat 32 b.val := by
  refine (broadcastInDim_apply _ _ _ _ (ix1 b) fun a => ?_).trans ?_
  · fin_cases a; rfl
  · refine (wrap_of_lt (BitVec.ofNat 32 b.val) _ ?_)
    have := b.isLt
    rw [BitVec.toNat_ofNat]; omega

variable (I : IVec S8192 32) (hI : InRange I) (hV : V (Proc.devRef .tc main_arg2) = I)

include hI hV in
theorem pickN_at (b : Fin 4) : pickN V (ix2 b 0) = 0#32 := by
  refine (broadcastInDim_apply _ _ _ _ (ix1 b) fun a => ?_).trans ?_
  · fin_cases a; rfl
  · refine (wrap_of_lt ((res_main_v81 V : IVec S4 32) (ix1 b)) _ ?_).trans (v81_zero V I hI hV b)
    rw [v81_zero V I hI hV b]; decide

theorem toInt_row (b : Fin 4) : (BitVec.ofNat 32 b.val).toInt = (b.val : Int) := by
  revert b; decide

include hI hV in
theorem G30_at (b : Fin 4) (c : Fin 128) : G30 V (ix2 b c) = A0 V (ix3 b 0 c) := by
  have h := concatenate_three (pickB V) (pickN V) pickA concatenates_S4x1_S4x1_S4x1_S4x3_d1 b
  refine (gather_row (D := 128) gather_S4x65536x1x128_S4x3_S4x128_1_012_n_n_012_1_111128_wf (T30 V) (pick3 V) b b 0 c ?_ ?_).trans (v30_root V I hI hV b c)
  · rw [← toInt_row b, ← pickB_at V b]; exact congrArg BitVec.toInt h.1
  · exact (congrArg BitVec.toInt (h.2.trans (pickN_at V I hI hV b))).trans (by decide)

include hI hV in
theorem G41_at (b : Fin 4) (c : Fin 64) : G41 V (ix2 b c) = A1 V (ix3 b 0 c) := by
  have h := concatenate_three (pickB V) (pickN V) pickA concatenates_S4x1_S4x1_S4x1_S4x3_d1 b
  refine (gather_row (D := 64) gather_S4x65536x1x64_S4x3_S4x64_1_012_n_n_012_1_11164_wf (T41 V) (pick3 V) b b 0 c ?_ ?_).trans (v41_root V I hI hV b c)
  · rw [← toInt_row b, ← pickB_at V b]; exact congrArg BitVec.toInt h.1
  · exact (congrArg BitVec.toInt (h.2.trans (pickN_at V I hI hV b))).trans (by decide)

include hI hV in
theorem G48_at (b : Fin 4) : G48 V (ix2 b 0) = 0 := by
  have h := concatenate_two (pickB V) (pickN V) concatenates_S4x1_S4x1_S4x2_d1 b
  refine (gather_col gather_S4x65536x1_S4x2_S4x1_1_01_n_n_01_1_111_wf (T48 V) (pick2 V) b b 0 ?_ ?_).trans (v48_root V I hI hV b)
  · rw [← toInt_row b, ← pickB_at V b]; exact congrArg BitVec.toInt h.1
  · exact (congrArg BitVec.toInt (h.2.trans (pickN_at V I hI hV b))).trans (by decide)

end

/-- Each queue's root row, 0 for the root's `G`; each queue's root row plus the rows of the writes that are their node's last; and −512
    plus every written `G`. -/
theorem result_at (V : Valuation τ sig (Elt Ideal)) (I : IVec S8192 32) (hI : InRange I) (hV : V (Proc.devRef .tc main_arg2) = I) (b : Fin 4) (j : Fin 386) :
    result V (ix2 b j) = cols (fun i => A0 V (ix3 (i 0 : Fin 4) 0 (i 1 : Fin 128))) (fun i => A1 V (ix3 (i 0 : Fin 4) 0 (i 1 : Fin 64))) (fun _ => 0)
      (fun i => A0 V (ix3 (i 0 : Fin 4) 0 (i 1 : Fin 128)) + ∑ w, if IsLast (node I hI) w then A4 V (ix3 (i 0 : Fin 4) w (i 1 : Fin 128)) else 0)
      (fun i => A1 V (ix3 (i 0 : Fin 4) 0 (i 1 : Fin 64)) + ∑ w, if IsLast (node I hI) w then A5 V (ix3 (i 0 : Fin 4) w (i 1 : Fin 64)) else 0)
      (fun i => (Ideal.ofBits .f32 0xC4000000#32 : EReal) + ∑ w : Fin 8192, A3 V (ix3 (i 0 : Fin 4) w 0)) b j := by
  refine (concatenate_cols (G30 V) (G41 V) (G48 V) (R30 V) (R41 V) (R48 V) concatenates_S4x128_S4x64_S4x1_S4x128_S4x64_S4x1_S4x386_d1 b j).trans ?_
  exact cols_congr b j (G30_at V I hI hV b) (G41_at V I hI hV b) (G48_at V I hI hV b) (sum30 V I hI hV b) (sum41 V I hI hV b) (sum48 V I hI hV b)

end Cert.Proof.Ref

end
-- ==== Proof.Equation.lean ====
/-
  Over the extended reals the kernel's result is the reference's. Both are read, at a row and a column, as the same six blocks of
  columns; the last writers the SparseCore call marks are the writes whose rows the reference's scatters leave in the tables.
-/
module

public import proofs.«01_k».proof.Proof.Final
public import proofs.«01_k».proof.Proof.KerValue
public import proofs.«01_k».proof.Proof.RefRun
public import proofs.«01_k».proof.Proof.RefValue

@[expose] public section

noncomputable section

namespace Cert.Proof.Eqn

open Idealize.ShloMosaic Idealize.ShloMosaic.TcCoe Idealize.SL.Sem
open Cert.Proof.Table

/-- A write is the last to its node, by the order of the write numbers, exactly when no later write names the same node. -/
theorem last_iff (I : IVec Cert.KernelIdeal.S8192 32) (hI : Ref.InRange I) (w : Fin 8192) :
    Last I (ix1 w) ↔ Ref.IsLast (Ref.node I hI) w := by
  constructor
  · intro h w' hn
    by_contra hlt
    exact h (ix1 w') (not_le.mp hlt) (BitVec.eq_of_toNat_eq (show (I (ix1 w')).toNat = (I (ix1 w)).toNat from congrArg (fun n : Fin 65536 => n.val) hn))
  · intro h w' hlt he
    have hw : w' = ix1 (w' 0) := eq_ix1 w'
    have hn : Ref.node I hI (w' 0) = Ref.node I hI w :=
      Fin.ext (congrArg BitVec.toNat ((congrArg I hw).symm.trans he))
    exact absurd (h (w' 0) hn) (not_le.mpr hlt)

variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)

/-- On equal arguments, with every write index in range, the two results are one array. -/
theorem result_eq (hI : Ref.InRange (K.I m c)) (e0 : Ref.A0 V = K.Q0 m c) (e1 : Ref.A1 V = K.Q1 m c)
    (e2 : V (Proc.devRef .tc Cert.ReferenceIdeal.main_arg2) = K.I m c) (e3 : Ref.A3 V = K.WG m c) (e4 : Ref.A4 V = K.W0 m c) (e5 : Ref.A5 V = K.W1 m c) :
    Ref.result V = (K.outAt (K.V5 m c) Cert.KernelIdeal.Gen.t1_3 : FVec Ideal Cert.KernelIdeal.S4x386 .f32) := by
  funext k
  obtain ⟨b, j, rfl⟩ : ∃ (b : Fin 4) (j : Fin 386), k = ix2 b j := ⟨k 0, k 1, eq_ix2 k⟩
  refine (Ref.result_at V (K.I m c) hI e2 b j).trans (Eq.trans ?_ (K.outAt_at m c b j).symm)
  rw [e0, e1, e3, e4, e5]
  refine cols_congr b j (fun _ => rfl) (fun _ => rfl) rfl (fun i => ?_) (fun i => ?_) rfl
  · exact congrArg (_ + ·) (Finset.sum_congr rfl fun w _ => if_congr (last_iff (K.I m c) hI w).symm rfl rfl)
  · exact congrArg (_ + ·) (Finset.sum_congr rfl fun w _ => if_congr (last_iff (K.I m c) hI w).symm rfl rfl)

theorem algebraic : Cert.algebraic_KernelIdeal_ReferenceIdeal := by
  intro m g m' g' hpre hargs
  refine ⟨fun c => (K.outAt (K.V5 m c) Cert.KernelIdeal.Gen.t1_3 : FVec Ideal Cert.KernelIdeal.S4x386 .f32), ?_, ?_⟩
  · exact (θ_run Cert.KernelIdeal.defs _ _).mono (fun _ (h : K.Read (F := Ideal) m _) => h.1)
      (K.run_read (F := Ideal) m g fun d w => (K.range_ideal m hpre d w).2)
  · refine (θ_run Cert.ReferenceIdeal.defs _ _).mono (fun r h c => ⟨(h c).1.trans ?_, (h c).2⟩)
      (Cert.ReferenceIdeal.Value.run (F := Ideal) m' g')
    obtain ⟨h0, h1, h2, h3, h4, h5⟩ := hargs c
    exact result_eq m (StableHlo.launchContents m' c) c (K.range_ideal m hpre c) h0 h1 h2 h3 h4 h5

end Cert.Proof.Eqn

end
-- ==== Proof.lean ====
/-
  The proof of `Cert.Claim`: the three frames, that the idealized kernel is the kernel with nothing rewritten, and the equation of
  the kernel's result with the reference's over the extended reals.
-/
module

public import proofs.«01_k».proof.Defs
public import proofs.«01_k».proof.Proof.Final
public import proofs.«01_k».proof.Proof.RefRun
public import proofs.«01_k».proof.Proof.Equation

@[expose] public section

noncomputable section

namespace Cert.Proof

theorem claim : Cert.Claim := ⟨Cert.Kernel.Gen.facts, Cert.KernelIdeal.Gen.facts, Cert.ReferenceIdeal.Gen.facts, Cert.Pre_in_range.Gen.facts,
  K.frame_kernel, K.frame_ideal, Ref.frame_reference, trivial, Eqn.algebraic⟩

end Cert.Proof

end
